-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct_at_cut [hPre_distinct_at_cut : Cert.Pre_distinct_at_cut.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_at_cut.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_at_cut [hPre_distinct_at_cut : Cert.Pre_distinct_at_cut.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_at_cut.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_distinct_at_cut [hKernelIdeal : Cert.KernelIdeal.Facts] [hPre_distinct_at_cut : Cert.Pre_distinct_at_cut.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_at_cut m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_distinct_at_cut [hReferenceIdeal : Cert.ReferenceIdeal.Facts] [hPre_distinct_at_cut : Cert.Pre_distinct_at_cut.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_at_cut m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_distinct_at_cut [hKernelIdeal : Cert.KernelIdeal.Facts] [hReferenceIdeal : Cert.ReferenceIdeal.Facts] [hPre_distinct_at_cut : Cert.Pre_distinct_at_cut.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_at_cut m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_distinct_at_cut : Cert.Pre_distinct_at_cut.Facts),
    quiescent_Kernel (hKernel := hKernel)
    ∧ quiescent_KernelIdeal (hKernelIdeal := hKernelIdeal)
    ∧ quiescent_KernelIdeal_pre_distinct_at_cut (hKernelIdeal := hKernelIdeal) (hPre_distinct_at_cut := hPre_distinct_at_cut)
    ∧ quiescent_ReferenceIdeal (hReferenceIdeal := hReferenceIdeal)
    ∧ quiescent_ReferenceIdeal_pre_distinct_at_cut (hReferenceIdeal := hReferenceIdeal) (hPre_distinct_at_cut := hPre_distinct_at_cut)
    ∧ preserves_Kernel_KernelIdeal
    ∧ algebraic_KernelIdeal_ReferenceIdeal_pre_distinct_at_cut (hKernelIdeal := hKernelIdeal) (hReferenceIdeal := hReferenceIdeal) (hPre_distinct_at_cut := hPre_distinct_at_cut)
-- ==== Pre_distinct_at_cut.lean ====
abbrev S32x768x32x32 : Shape := ⟨4, ![32, 768, 32, 32]⟩
abbrev S32x32x32x768 : Shape := ⟨4, ![32, 32, 32, 768]⟩
abbrev S32x32x32x9 : Shape := ⟨4, ![32, 32, 32, 9]⟩
abbrev S32x32x32x1 : Shape := ⟨4, ![32, 32, 32, 1]⟩
abbrev S32x32x32 : Shape := ⟨3, ![32, 32, 32]⟩
abbrev S_ : Shape := ⟨0, ![]⟩

class Facts : Prop where
  transposes_S32x768x32x32_S32x32x32x768_0_2_3_1 : S32x768x32x32.Transposes [0, 2, 3, 1] S32x32x32x768
  sliceFits_S32x32x32x768_S32x32x32x9 : S32x32x32x768.Slices (fun _ => 0) S32x32x32x9
  slices_S32x32x32x9_S32x32x32x1_0_0_0_7 : S32x32x32x9.Slices ![0, 0, 0, 7] S32x32x32x1
  shapeCasts_S32x32x32x1_S32x32x32 : S32x32x32x1.ShapeCasts S32x32x32
  slices_S32x32x32x9_S32x32x32x1_0_0_0_8 : S32x32x32x9.Slices ![0, 0, 0, 8] S32x32x32x1
  bcast_S_S32x32x32 : S_.BroadcastsInDim S32x32x32 (![] : Fin 0 → Fin S32x32x32.rank)
  reducesTo_S32x32x32_S_d0_1_2 : S32x32x32.ReducesTo [0, 1, 2] S_
  h_S_ : 0 < S_.numel

variable [Facts]

def fn {F : FTy → Type} [FloatOps F] (main_arg0 : FVec F S32x768x32x32 .f32) : IVec S_ 1 :=
  let main_v0 : FVec F S32x32x32x768 .f32 := (transpose S32x32x32x768 [0, 2, 3, 1] · transposes_S32x768x32x32_S32x32x32x768_0_2_3_1) main_arg0
  let main_values : FVec F S32x32x32x9 .f32 := (fun x => (Host.topK S32x32x32x9 3 (FloatOps.cmpfTotal .gt) x sliceFits_S32x32x32x768_S32x32x32x9).1) main_v0
  let main_indices : IVec S32x32x32x9 32 := (fun x => (Host.topK S32x32x32x9 3 (FloatOps.cmpfTotal .gt) x sliceFits_S32x32x32x768_S32x32x32x9).2) main_v0
  let main_v1 : FVec F S32x32x32x1 .f32 := (extractStridedSlice S32x32x32x1 ![0, 0, 0, 7] · slices_S32x32x32x9_S32x32x32x1_0_0_0_7) main_values
  let main_v2 : FVec F S32x32x32 .f32 := shapeCast S32x32x32 main_v1 shapeCasts_S32x32x32x1_S32x32x32
  let main_v3 : FVec F S32x32x32x1 .f32 := (extractStridedSlice S32x32x32x1 ![0, 0, 0, 8] · slices_S32x32x32x9_S32x32x32x1_0_0_0_8) main_values
  let main_v4 : FVec F S32x32x32 .f32 := shapeCast S32x32x32 main_v3 shapeCasts_S32x32x32x1_S32x32x32
  let main_v5 : IVec S32x32x32 1 := cmpf .ogt main_v2 main_v4
  let main_v6 : FVec F S32x32x32x1 .f32 := (extractStridedSlice S32x32x32x1 ![0, 0, 0, 8] · slices_S32x32x32x9_S32x32x32x1_0_0_0_8) main_values
  let main_v7 : FVec F S32x32x32 .f32 := shapeCast S32x32x32 main_v6 shapeCasts_S32x32x32x1_S32x32x32
  let main_cst : FVec F S_ .f32 := constant S_ .f32 0x00000000#32
  let main_v8 : FVec F S32x32x32 .f32 := broadcastInDim S32x32x32 ![] bcast_S_S32x32x32 main_cst
  let main_v9 : IVec S32x32x32 1 := cmpf .oeq main_v7 main_v8
  let main_v10 : IVec S32x32x32 1 := ori main_v5 main_v9
  let main_c : IVec S_ 1 := constantI S_ 1 1#1
  let main_v11 : IVec S_ 1 := (fun x v => Host.reduce IntOp.andi x v reducesTo_S32x32x32_S_d0_1_2 h_S_) main_v10 main_c
  main_v11
-- ==== Kernel.lean ====
abbrev S32x768x32x32 : Shape := ⟨4, ![32, 768, 32, 32]⟩
abbrev S32x768x1024 : Shape := ⟨3, ![32, 768, 1024]⟩
abbrev S768x64 : Shape := ⟨2, ![768, 64]⟩
abbrev S_ : Shape := ⟨0, ![]⟩
abbrev S1x768x64 : Shape := ⟨3, ![1, 768, 64]⟩
abbrev S16 : Shape := ⟨1, ![16]⟩
abbrev S1x16 : Shape := ⟨2, ![1, 16]⟩

abbrev nBuf : Table → Nat
  | .hbm => 4
  | .local .scVector .vmem => 2
  | _ => 0

abbrev bufTy : (tb : Table) → Fin (nBuf tb) → BufTy
  | .hbm, ⟨0, _⟩ => ⟨S32x768x32x32, .f32⟩
  | .hbm, ⟨1, _⟩ => ⟨S32x768x1024, .f32⟩
  | .hbm, ⟨2, _⟩ => ⟨S32x768x1024, .f32⟩
  | .hbm, ⟨3, _⟩ => ⟨S32x768x32x32, .f32⟩
  | .local .scVector .vmem, ⟨0, _⟩ => ⟨S768x64, .f32⟩
  | .local .scVector .vmem, ⟨1, _⟩ => ⟨S768x64, .f32⟩
  | _, _ => ⟨S32x768x32x32, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c16_i32 : BitVec 32 := 16#32
  let v2 : BitVec 32 := Scalar.addi c0_i32 c16_i32
  let c1_i32 : BitVec 32 := 1#32
  ⟨c0_i32, v2, c1_i32⟩
def k0_off1 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_15_r0 : BitVec 32 := 0#32
  let c0_i32_2 : BitVec 32 := 0#32
  let c0_i32 : BitVec 32 := 0#32
  let c1_i32 : BitVec 32 := 1#32
  let arg6 : BitVec 32 := Scf.iv c0_i32 c1_i32 k0_t1
  let c1_i32_1 : BitVec 32 := 1#32
  let v3 : BitVec 32 := Scalar.muli arg6 c1_i32_1
  let v4 : BitVec 32 := Scalar.addi c0_i32_2 v3
  let c64_i32 : BitVec 32 := 64#32
  let v5 : BitVec 32 := Scalar.muli v4 c64_i32
  ![v1.toNat, 0, v5.toNat]
@[reducible] def k0_t2_loop : Scf.Loop 32 :=
  let c0_i32_3 : BitVec 32 := 0#32
  let c96_i32 : BitVec 32 := 96#32
  let v7 : BitVec 32 := Scalar.addi c0_i32_3 c96_i32
  let c1_i32_4 : BitVec 32 := 1#32
  ⟨c0_i32_3, v7, c1_i32_4⟩
def k0_off2 (k0_t2 : Fin k0_t2_loop.trips) (c0_i32_15 : BitVec 32) : Fin 2 → Nat :=
  let c0_i32_3 : BitVec 32 := 0#32
  let c1_i32_4 : BitVec 32 := 1#32
  let arg7 : BitVec 32 := Scf.iv c0_i32_3 c1_i32_4 k0_t2
  let c8_i32 : BitVec 32 := 8#32
  let v13 : BitVec 32 := Scalar.muli arg7 c8_i32
  let v14 : BitVec 32 := Scalar.addi v13 c0_i32_15
  let v15 : Index := Scalar.indexCast v14
  let c0 : Index := 0#32
  ![v15.toNat, 0]
def k0_off3 (k0_t2 : Fin k0_t2_loop.trips) (c0_i32_25 : BitVec 32) : Fin 2 → Nat :=
  let c0_i32_3 : BitVec 32 := 0#32
  let c1_i32_4 : BitVec 32 := 1#32
  let arg7 : BitVec 32 := Scf.iv c0_i32_3 c1_i32_4 k0_t2
  let c8_i32 : BitVec 32 := 8#32
  let v13 : BitVec 32 := Scalar.muli arg7 c8_i32
  let v116 : BitVec 32 := Scalar.addi v13 c0_i32_25
  let v117 : Index := Scalar.indexCast v116
  let c16 : Index := 16#32
  ![v117.toNat, 16]
@[reducible] def k0_t3_loop : Scf.Loop 32 :=
  let c0_i32_6 : BitVec 32 := 0#32
  let c96_i32_7 : BitVec 32 := 96#32
  let v9 : BitVec 32 := Scalar.addi c0_i32_6 c96_i32_7
  let c1_i32_8 : BitVec 32 := 1#32
  ⟨c0_i32_6, v9, c1_i32_8⟩
def k0_off4 (k0_t3 : Fin k0_t3_loop.trips) (c0_i32_15 : BitVec 32) : Fin 2 → Nat :=
  let c0_i32_6 : BitVec 32 := 0#32
  let c1_i32_8 : BitVec 32 := 1#32
  let arg7 : BitVec 32 := Scf.iv c0_i32_6 c1_i32_8 k0_t3
  let c8_i32 : BitVec 32 := 8#32
  let v13 : BitVec 32 := Scalar.muli arg7 c8_i32
  let v14 : BitVec 32 := Scalar.addi v13 c0_i32_15
  let v15 : Index := Scalar.indexCast v14
  let c32 : Index := 32#32
  ![v15.toNat, 32]
def k0_off5 (k0_t3 : Fin k0_t3_loop.trips) (c0_i32_25 : BitVec 32) : Fin 2 → Nat :=
  let c0_i32_6 : BitVec 32 := 0#32
  let c1_i32_8 : BitVec 32 := 1#32
  let arg7 : BitVec 32 := Scf.iv c0_i32_6 c1_i32_8 k0_t3
  let c8_i32 : BitVec 32 := 8#32
  let v13 : BitVec 32 := Scalar.muli arg7 c8_i32
  let v116 : BitVec 32 := Scalar.addi v13 c0_i32_25
  let v117 : Index := Scalar.indexCast v116
  let c48 : Index := 48#32
  ![v117.toNat, 48]
@[reducible] def k0_t4_loop : Scf.Loop 32 :=
  let c0_i32_12 : BitVec 32 := 0#32
  let c768_i32 : BitVec 32 := 768#32
  let v12 : BitVec 32 := Scalar.addi c0_i32_12 c768_i32
  let c1_i32_13 : BitVec 32 := 1#32
  ⟨c0_i32_12, v12, c1_i32_13⟩
def k0_off6 (k0_t4 : Fin k0_t4_loop.trips) : Fin 2 → Nat :=
  let c0_i32_12 : BitVec 32 := 0#32
  let c1_i32_13 : BitVec 32 := 1#32
  let arg7 : BitVec 32 := Scf.iv c0_i32_12 c1_i32_13 k0_t4
  let v13 : Index := Scalar.indexCast arg7
  let c0 : Index := 0#32
  ![v13.toNat, 0]
def k0_off7 (k0_t4 : Fin k0_t4_loop.trips) : Fin 2 → Nat :=
  let c0_i32_12 : BitVec 32 := 0#32
  let c1_i32_13 : BitVec 32 := 1#32
  let arg7 : BitVec 32 := Scf.iv c0_i32_12 c1_i32_13 k0_t4
  let v22 : Index := Scalar.indexCast arg7
  let c16 : Index := 16#32
  ![v22.toNat, 16]
def k0_off8 (k0_t4 : Fin k0_t4_loop.trips) : Fin 2 → Nat :=
  let c0_i32_12 : BitVec 32 := 0#32
  let c1_i32_13 : BitVec 32 := 1#32
  let arg7 : BitVec 32 := Scf.iv c0_i32_12 c1_i32_13 k0_t4
  let v31 : Index := Scalar.indexCast arg7
  let c32 : Index := 32#32
  ![v31.toNat, 32]
def k0_off9 (k0_t4 : Fin k0_t4_loop.trips) : Fin 2 → Nat :=
  let c0_i32_12 : BitVec 32 := 0#32
  let c1_i32_13 : BitVec 32 := 1#32
  let arg7 : BitVec 32 := Scf.iv c0_i32_12 c1_i32_13 k0_t4
  let v40 : Index := Scalar.indexCast arg7
  let c48 : Index := 48#32
  ![v40.toNat, 48]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x768x32x32 : Shape := ⟨4, ![32, 768, 32, 32]⟩
abbrev S32x32x32x768 : Shape := ⟨4, ![32, 32, 32, 768]⟩
abbrev S32x32x32x8 : Shape := ⟨4, ![32, 32, 32, 8]⟩
abbrev S_ : Shape := ⟨0, ![]⟩
abbrev S32x32x32x8x1 : Shape := ⟨5, ![32, 32, 32, 8, 1]⟩
abbrev S1 : Shape := ⟨1, ![1]⟩
abbrev S1x1x1x1x1 : Shape := ⟨5, ![1, 1, 1, 1, 1]⟩
abbrev S32 : Shape := ⟨1, ![32]⟩
abbrev S32x1x1x1 : Shape := ⟨4, ![32, 1, 1, 1]⟩
abbrev S1x32x1x1 : Shape := ⟨4, ![1, 32, 1, 1]⟩
abbrev S1x1x32x1 : Shape := ⟨4, ![1, 1, 32, 1]⟩
abbrev S32x32x32x8x4 : Shape := ⟨5, ![32, 32, 32, 8, 4]⟩

abbrev nBuf : Space → Nat
  | .hbm => 72
  | .vmem => 0
  | .smem => 0
  | _ => 0

abbrev bufTy : (tb : Table) → Fin (tcTables nBuf tb) → BufTy
  | .hbm, ⟨0, _⟩ => ⟨S32x768x32x32, .f32⟩
  | .hbm, ⟨1, _⟩ => ⟨S32x32x32x768, .f32⟩
  | .hbm, ⟨2, _⟩ => ⟨S32x32x32x8, .f32⟩
  | .hbm, ⟨3, _⟩ => ⟨S32x32x32x8, .i32⟩
  | .hbm, ⟨4, _⟩ => ⟨S_, .i32⟩
  | .hbm, ⟨5, _⟩ => ⟨S32x32x32x8, .i32⟩
  | .hbm, ⟨6, _⟩ => ⟨S32x32x32x8, .i1⟩
  | .hbm, ⟨7, _⟩ => ⟨S_, .i32⟩
  | .hbm, ⟨8, _⟩ => ⟨S32x32x32x8, .i32⟩
  | .hbm, ⟨9, _⟩ => ⟨S32x32x32x8, .i32⟩
  | .hbm, ⟨10, _⟩ => ⟨S32x32x32x8, .i32⟩
  | .hbm, ⟨11, _⟩ => ⟨S32x32x32x8x1, .i32⟩
  | .hbm, ⟨12, _⟩ => ⟨S1, .i32⟩
  | .hbm, ⟨13, _⟩ => ⟨S_, .i32⟩
  | .hbm, ⟨14, _⟩ => ⟨S32x32x32x8x1, .i32⟩
  | .hbm, ⟨15, _⟩ => ⟨S32x32x32x8x1, .i1⟩
  | .hbm, ⟨16, _⟩ => ⟨S1x1x1x1x1, .i32⟩
  | .hbm, ⟨17, _⟩ => ⟨S32x32x32x8x1, .i32⟩
  | .hbm, ⟨18, _⟩ => ⟨S32x32x32x8x1, .i1⟩
  | .hbm, ⟨19, _⟩ => ⟨S32x32x32x8x1, .i1⟩
  | .hbm, ⟨20, _⟩ => ⟨S_, .i1⟩
  | .hbm, ⟨21, _⟩ => ⟨S32x32x32x8, .i1⟩
  | .hbm, ⟨22, _⟩ => ⟨S32x32x32x8, .f32⟩
  | .hbm, ⟨23, _⟩ => ⟨S_, .f32⟩
  | .hbm, ⟨24, _⟩ => ⟨S32x32x32x8, .f32⟩
  | .hbm, ⟨25, _⟩ => ⟨S32x32x32x8, .f32⟩
  | .hbm, ⟨26, _⟩ => ⟨S32, .i32⟩
  | .hbm, ⟨27, _⟩ => ⟨S32x1x1x1, .i32⟩
  | .hbm, ⟨28, _⟩ => ⟨S32, .i32⟩
  | .hbm, ⟨29, _⟩ => ⟨S1x32x1x1, .i32⟩
  | .hbm, ⟨30, _⟩ => ⟨S32, .i32⟩
  | .hbm, ⟨31, _⟩ => ⟨S1x1x32x1, .i32⟩
  | .hbm, ⟨32, _⟩ => ⟨S_, .f32⟩
  | .hbm, ⟨33, _⟩ => ⟨S32x32x32x768, .f32⟩
  | .hbm, ⟨34, _⟩ => ⟨S_, .i32⟩
  | .hbm, ⟨35, _⟩ => ⟨S32x1x1x1, .i32⟩
  | .hbm, ⟨36, _⟩ => ⟨S32x1x1x1, .i1⟩
  | .hbm, ⟨37, _⟩ => ⟨S_, .i32⟩
  | .hbm, ⟨38, _⟩ => ⟨S32x1x1x1, .i32⟩
  | .hbm, ⟨39, _⟩ => ⟨S32x1x1x1, .i32⟩
  | .hbm, ⟨40, _⟩ => ⟨S32x1x1x1, .i32⟩
  | .hbm, ⟨41, _⟩ => ⟨S_, .i32⟩
  | .hbm, ⟨42, _⟩ => ⟨S1x32x1x1, .i32⟩
  | .hbm, ⟨43, _⟩ => ⟨S1x32x1x1, .i1⟩
  | .hbm, ⟨44, _⟩ => ⟨S_, .i32⟩
  | .hbm, ⟨45, _⟩ => ⟨S1x32x1x1, .i32⟩
  | .hbm, ⟨46, _⟩ => ⟨S1x32x1x1, .i32⟩
  | .hbm, ⟨47, _⟩ => ⟨S1x32x1x1, .i32⟩
  | .hbm, ⟨48, _⟩ => ⟨S_, .i32⟩
  | .hbm, ⟨49, _⟩ => ⟨S1x1x32x1, .i32⟩
  | .hbm, ⟨50, _⟩ => ⟨S1x1x32x1, .i1⟩
  | .hbm, ⟨51, _⟩ => ⟨S_, .i32⟩
  | .hbm, ⟨52, _⟩ => ⟨S1x1x32x1, .i32⟩
  | .hbm, ⟨53, _⟩ => ⟨S1x1x32x1, .i32⟩
  | .hbm, ⟨54, _⟩ => ⟨S1x1x32x1, .i32⟩
  | .hbm, ⟨55, _⟩ => ⟨S_, .i32⟩
  | .hbm, ⟨56, _⟩ => ⟨S32x32x32x8, .i32⟩
  | .hbm, ⟨57, _⟩ => ⟨S32x32x32x8, .i1⟩
  | .hbm, ⟨58, _⟩ => ⟨S_, .i32⟩
  | .hbm, ⟨59, _⟩ => ⟨S32x32x32x8, .i32⟩
  | .hbm, ⟨60, _⟩ => ⟨S32x32x32x8, .i32⟩
  | .hbm, ⟨61, _⟩ => ⟨S32x32x32x8, .i32⟩
  | .hbm, ⟨62, _⟩ => ⟨S32x32x32x8, .i32⟩
  | .hbm, ⟨63, _⟩ => ⟨S32x32x32x8, .i32⟩
  | .hbm, ⟨64, _⟩ => ⟨S32x32x32x8, .i32⟩
  | .hbm, ⟨65, _⟩ => ⟨S32x32x32x8x1, .i32⟩
  | .hbm, ⟨66, _⟩ => ⟨S32x32x32x8x1, .i32⟩
  | .hbm, ⟨67, _⟩ => ⟨S32x32x32x8x1, .i32⟩
  | .hbm, ⟨68, _⟩ => ⟨S32x32x32x8x1, .i32⟩
  | .hbm, ⟨69, _⟩ => ⟨S32x32x32x8x4, .i32⟩
  | .hbm, ⟨70, _⟩ => ⟨S32x32x32x768, .f32⟩
  | .hbm, ⟨71, _⟩ => ⟨S32x768x32x32, .f32⟩
  | _, _ => ⟨S32x768x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_values : Ref sig .tc := ⟨.hbm, 2, rfl⟩
abbrev main_indices : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst : Ref sig .tc := ⟨.hbm, 32, rfl⟩
abbrev main_v8 : Ref sig .tc := ⟨.hbm, 33, rfl⟩
abbrev main_c : Ref sig .tc := ⟨.hbm, 34, rfl⟩
abbrev main_v9 : Ref sig .tc := ⟨.hbm, 35, rfl⟩
abbrev main_v10 : Ref sig .tc := ⟨.hbm, 36, rfl⟩
abbrev main_c_0 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_c_1 : Ref sig .tc := ⟨.hbm, 41, rfl⟩
abbrev main_v14 : Ref sig .tc := ⟨.hbm, 42, rfl⟩
abbrev main_v15 : Ref sig .tc := ⟨.hbm, 43, rfl⟩
abbrev main_c_2 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_c_3 : Ref sig .tc := ⟨.hbm, 48, rfl⟩
abbrev main_v19 : Ref sig .tc := ⟨.hbm, 49, rfl⟩
abbrev main_v20 : Ref sig .tc := ⟨.hbm, 50, rfl⟩
abbrev main_c_4 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_c_5 : Ref sig .tc := ⟨.hbm, 55, rfl⟩
abbrev main_v24 : Ref sig .tc := ⟨.hbm, 56, rfl⟩
abbrev main_v25 : Ref sig .tc := ⟨.hbm, 57, rfl⟩
abbrev main_c_6 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩

abbrev nD : Nat := 1
abbrev τ : Topo := Topo.v7x

variable {F : FTy → Type} [FloatOps F]
-- ==== Proof.Net.lean ====
/-
  The kernel's network on eight values: sorting eight new values, keeping of a descending list and the new ones the eight
  greatest, in descending order. Generic in the two exchange operations, so that one text serves vectors, numbers and bits.
-/
module

public import Mathlib.Data.Fintype.Prod
public import Mathlib.Algebra.BigOperators.Fin
public import Mathlib.Order.MinMax

@[expose] public section

namespace Cert.Proof.Net

/-- Eight values. -/
structure Oct (α : Type) where
  a0 : α
  a1 : α
  a2 : α
  a3 : α
  a4 : α
  a5 : α
  a6 : α
  a7 : α

/-- A function on each of the eight. -/
def Oct.map {α β : Type} (f : α → β) (t : Oct α) : Oct β :=
  ⟨f t.a0, f t.a1, f t.a2, f t.a3, f t.a4, f t.a5, f t.a6, f t.a7⟩

section Steps

variable {α : Type} (hi lo : α → α → α)

/-- The exchanges (0,1) (2,3) (4,5) (6,7). -/
def near (t : Oct α) : Oct α :=
  ⟨hi t.a0 t.a1, lo t.a0 t.a1, hi t.a2 t.a3, lo t.a2 t.a3, hi t.a4 t.a5, lo t.a4 t.a5, hi t.a6 t.a7, lo t.a6 t.a7⟩
/-- The exchanges (0,2) (1,3) (4,6) (5,7). -/
def mid (t : Oct α) : Oct α :=
  ⟨hi t.a0 t.a2, hi t.a1 t.a3, lo t.a0 t.a2, lo t.a1 t.a3, hi t.a4 t.a6, hi t.a5 t.a7, lo t.a4 t.a6, lo t.a5 t.a7⟩
/-- The exchanges (0,4) (1,5) (2,6) (3,7). -/
def far (t : Oct α) : Oct α :=
  ⟨hi t.a0 t.a4, hi t.a1 t.a5, hi t.a2 t.a6, hi t.a3 t.a7, lo t.a0 t.a4, lo t.a1 t.a5, lo t.a2 t.a6, lo t.a3 t.a7⟩
/-- The exchanges (1,2) (5,6). -/
def inner (t : Oct α) : Oct α :=
  ⟨t.a0, hi t.a1 t.a2, lo t.a1 t.a2, t.a3, t.a4, hi t.a5 t.a6, lo t.a5 t.a6, t.a7⟩
/-- The exchanges (2,4) (3,5). -/
def cross (t : Oct α) : Oct α :=
  ⟨t.a0, t.a1, hi t.a2 t.a4, hi t.a3 t.a5, lo t.a2 t.a4, lo t.a3 t.a5, t.a6, t.a7⟩
/-- The exchanges (1,2) (3,4) (5,6). -/
def last (t : Oct α) : Oct α :=
  ⟨t.a0, hi t.a1 t.a2, lo t.a1 t.a2, hi t.a3 t.a4, lo t.a3 t.a4, hi t.a5 t.a6, lo t.a5 t.a6, t.a7⟩

/-- Eight values in descending order. -/
def sort8 (t : Oct α) : Oct α := last hi lo (cross hi lo (far hi lo (inner hi lo (mid hi lo (near hi lo t)))))

/-- Two descending lists against each other: the greater of the i-th of one and the i-th from the end of the other. -/
def meet (m t : Oct α) : Oct α :=
  ⟨hi m.a0 t.a7, hi m.a1 t.a6, hi m.a2 t.a5, hi m.a3 t.a4, hi m.a4 t.a3, hi m.a5 t.a2, hi m.a6 t.a1, hi m.a7 t.a0⟩

/-- The eight greatest so far, after eight more values. -/
def step (m t : Oct α) : Oct α := near hi lo (mid hi lo (far hi lo (meet hi m (sort8 hi lo t))))

end Steps

/-- A map that carries the exchanges carries the step. -/
theorem map_step {α β : Type} (f : α → β) (hi lo : α → α → α) (hi' lo' : β → β → β)
    (h1 : ∀ a b, f (hi a b) = hi' (f a) (f b)) (h2 : ∀ a b, f (lo a b) = lo' (f a) (f b)) (m t : Oct α) :
    (step hi lo m t).map f = step hi' lo' (m.map f) (t.map f) := by
  simp only [step, near, mid, far, meet, sort8, last, cross, inner, Oct.map, h1, h2]

/-! ## Bits -/

/-- How many of eight bits are set. -/
def cnt (t : Oct Bool) : ℕ :=
  t.a0.toNat + t.a1.toNat + t.a2.toNat + t.a3.toNat + t.a4.toNat + t.a5.toNat + t.a6.toNat + t.a7.toNat

/-- The first n of eight bits set. -/
def desc (n : ℕ) : Oct Bool :=
  ⟨decide (0 < n), decide (1 < n), decide (2 < n), decide (3 < n), decide (4 < n), decide (5 < n), decide (6 < n), decide (7 < n)⟩

/-- The same eight bits. -/
def same (s t : Oct Bool) : Bool :=
  s.a0 == t.a0 && s.a1 == t.a1 && s.a2 == t.a2 && s.a3 == t.a3 && s.a4 == t.a4 && s.a5 == t.a5 && s.a6 == t.a6 && s.a7 == t.a7

theorem eq_of_same {s t : Oct Bool} (h : same s t = true) : s = t := by
  cases s; cases t
  simp only [same, Bool.and_eq_true, beq_iff_eq] at h
  simp only [Oct.mk.injEq]
  tauto

/-- On bits, every case: the step counts. -/
theorem step_bits_all : ∀ n : Fin 9, ∀ b0 b1 b2 b3 b4 b5 b6 b7 : Bool,
    same (step (· || ·) (· && ·) (desc n.val) ⟨b0, b1, b2, b3, b4, b5, b6, b7⟩)
      (desc (min 8 (n.val + cnt ⟨b0, b1, b2, b3, b4, b5, b6, b7⟩))) = true := by
  decide +kernel

theorem step_bits (n : ℕ) (hn : n ≤ 8) (t : Oct Bool) :
    step (· || ·) (· && ·) (desc n) t = desc (min 8 (n + cnt t)) :=
  eq_of_same (step_bits_all ⟨n, by omega⟩ t.a0 t.a1 t.a2 t.a3 t.a4 t.a5 t.a6 t.a7)

/-! ## A linear order: the running eight, batch after batch -/

section Order

variable {α : Type} [LinearOrder α]

/-- Values 8k … 8k+7 of a sequence. -/
def batch {β : Type} (x : ℕ → β) (k : ℕ) : Oct β :=
  ⟨x (8 * k + 0), x (8 * k + 1), x (8 * k + 2), x (8 * k + 3), x (8 * k + 4), x (8 * k + 5), x (8 * k + 6), x (8 * k + 7)⟩

/-- The eight after k batches, from eight copies of a start value. -/
def running {β : Type} (hi lo : β → β → β) (b : β) (x : ℕ → β) : ℕ → Oct β
  | 0 => ⟨b, b, b, b, b, b, b, b⟩
  | k + 1 => step hi lo (running hi lo b x k) (batch x k)

/-- How many of the first n values exceed the level. -/
def above (x : ℕ → α) (θ : α) (n : ℕ) : ℕ := ∑ c ∈ Finset.range n, if θ < x c then 1 else 0

theorem above_succ8 (x : ℕ → α) (θ : α) (k : ℕ) :
    above x θ (8 * (k + 1)) = above x θ (8 * k) + cnt ((batch x k).map fun a => decide (θ < a)) := by
  have e : 8 * (k + 1) = 8 * k + 1 + 1 + 1 + 1 + 1 + 1 + 1 + 1 := by omega
  have b : ∀ a : α, (decide (θ < a)).toNat = if θ < a then 1 else 0 := fun a => by by_cases h : θ < a <;> simp [h]
  unfold above cnt batch Oct.map
  rw [e]
  simp only [Finset.sum_range_succ, b, Nat.add_assoc, Nat.reduceAdd]
  simp only [Nat.add_zero]

theorem running_bits (b : α) (hb : ∀ θ, ¬ θ < b) (x : ℕ → α) (θ : α) : ∀ k : ℕ,
    (running max min b x k).map (fun a => decide (θ < a)) = desc (min 8 (above x θ (8 * k)))
  | 0 => by simp [running, Oct.map, desc, above, hb θ]
  | k + 1 => by
    rw [running, map_step (fun a => decide (θ < a)) max min (· || ·) (· && ·) (fun p q => by simp [lt_max_iff])
      (fun p q => by simp [lt_min_iff]), running_bits b hb x θ k, step_bits _ (Nat.min_le_left _ _), above_succ8]
    congr 1
    omega

/-- A level lies under the last of the eight exactly if eight values exceed it. -/
theorem lt_eighth (b : α) (hb : ∀ θ, ¬ θ < b) (x : ℕ → α) (θ : α) (k : ℕ) :
    θ < (running max min b x k).a7 ↔ 8 ≤ above x θ (8 * k) := by
  have h := congrArg Oct.a7 (running_bits b hb x θ k)
  simp only [Oct.map, desc, decide_eq_decide] at h
  rw [h]; omega

end Order

end Cert.Proof.Net

end
-- ==== Proof.TileKernelIdeal.lean ====
/-
  One vector subcore's work: what its loops compute and leave, at a symbolic pair of SparseCore and subcore.
-/
module

public import proofs.«01_k».proof.Defs
public import proofs.«01_k».proof.Proof.Net
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Writes
public import Idealize.ShloMosaic.Lib.ValueIdx
public import Idealize.ShloMosaic.Lib.Pointwise
public import Idealize.ShloMosaic.Lib.Pipeline.Value
public import Idealize.ShloMosaic.Lib.ShareLeaves
public import proofs.«01_k».proof.Proof.Gen.KernelIdeal
public import proofs.«01_k».proof.Proof.Gen.KernelIdeal.Skeleton

@[expose] public section

noncomputable section

namespace Cert.Proof.TileKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Net (Oct batch running step)

variable {F : FTy → Type}

/-! ## The call as the launch theorem takes it -/

abbrev ΛP : Labels := Pipeline.Sig Λ₀ (Fin 0) fun p => (pcfgs (F := F) p).Adm
abbrev K : SparseCore.Cfg τ sig (ΛP (F := F)) 1 := sc (F := F)
abbrev 𝒱₀ : Variants := Variants.none

abbrev UH : Type := URounds (GSem nD τ sig) ℕ
abbrev UU : Type := UH × Counters

local notation "𝕄" => MT nD τ sig (HIx 1) (Elt F) ℕ UU ℕ

local notation "xV" => (Memref.whole Cert.KernelIdeal.main_v0_scv : Memref Cert.KernelIdeal.sig Kind.scVector Space.hbm Cert.KernelIdeal.S32x768x1024 EltTy.f32)
local notation "oV" => (Memref.whole Cert.KernelIdeal.main_v1_scv : Memref Cert.KernelIdeal.sig Kind.scVector Space.hbm Cert.KernelIdeal.S32x768x1024 EltTy.f32)
local notation "aV" => (Memref.whole Cert.KernelIdeal.cc0_scratch0 : Memref Cert.KernelIdeal.sig Kind.scVector Space.vmem Cert.KernelIdeal.S768x64 EltTy.f32)
local notation "bV" => (Memref.whole Cert.KernelIdeal.cc0_scratch1 : Memref Cert.KernelIdeal.sig Kind.scVector Space.vmem Cert.KernelIdeal.S768x64 EltTy.f32)

abbrev cV (L : grid0.Coords) : Fin τ.nSC := (L 0).castLE hcore0
abbrev jV (L : grid0.Coords) : Fin τ.nSub := (L 1).castLE hsub0

variable [FloatOps F]

/-! ## What a chunk's columns hold -/

/-- Lane group `g` of row `r` of a chunk: sixteen of its 64 columns. -/
def row (A : S768x64.Idx → F .f32) (g r : ℕ) : FVec F S16 .f32 :=
  fun i => if h : r < 768 ∧ 16 * g + (i 0).val < 64 then A (ix2 ⟨r, h.1⟩ ⟨16 * g + (i 0).val, h.2⟩) else Scalar.ofBits .f32 0#32

/-- The eight kept of lane group `g` after `k` batches of eight rows. -/
def eight (A : S768x64.Idx → F .f32) (g k : ℕ) : Oct (FVec F S16 .f32) :=
  running maximumf minimumf (k0_pay1 (F := F)) (row A g) k

abbrev T16 : Type := FVec F S16 .f32 × FVec F S16 .f32 × FVec F S16 .f32 × FVec F S16 .f32 × FVec F S16 .f32 × FVec F S16 .f32 × FVec F S16 .f32 × FVec F S16 .f32
  × FVec F S16 .f32 × FVec F S16 .f32 × FVec F S16 .f32 × FVec F S16 .f32 × FVec F S16 .f32 × FVec F S16 .f32 × FVec F S16 .f32 × FVec F S16 .f32

/-- Two lane groups' eights, as the loop carries them. -/
def pack (p q : Oct (FVec F S16 .f32)) : T16 (F := F) :=
  (p.a0, p.a1, p.a2, p.a3, p.a4, p.a5, p.a6, p.a7, q.a0, q.a1, q.a2, q.a3, q.a4, q.a5, q.a6, q.a7)

/-- Sixteen adjacent columns of one row, as the loops load them. -/
abbrev cells (A : S768x64.Idx → F .f32) (off : Fin 2 → ℕ) (inb : ∀ a, off a + S1x16.size a ≤ S768x64.size a) : Vec F S1x16 .f32 :=
  (aV).view.readAt (Elt F) (Rect.unit (s := S768x64) off S1x16.size inb).toLoadRect A

theorem cells_row (A : S768x64.Idx → F .f32) (off : Fin 2 → ℕ) (inb : ∀ a, off a + S1x16.size a ≤ S768x64.size a) (g r : ℕ)
    (hoff : off = ![r, 16 * g]) : shapeCast S16 (cells A off inb) shapeCasts_S1x16_S16 = row A g r := by
  subst hoff
  have h0 : r + 1 ≤ 768 := inb 0
  have h1 : 16 * g + 16 ≤ 64 := inb 1
  funext i
  have hi : (i 0).val < 16 := (i 0).isLt
  rw [row, dif_pos ⟨by omega, by omega⟩]
  rw [shapeCast_apply (cells A ![r, 16 * g] inb) shapeCasts_S1x16_S16 i (ix2 (n0 := 1) (n1 := 16) 0 (i 0))]
  · show A _ = A _
    congr 1
    funext a
    match a with
    | 0 => apply Fin.ext; simp [Rect.unit]
    | 1 => apply Fin.ext; simp [Rect.unit]
  · rw [Shape.rowMajor_val_two, Shape.rowMajor_val_one]
    simp

/-- Lane group `g` of row `r` with what lies below the group's eighth greatest set to zero. -/
def maskRow (A : S768x64.Idx → F .f32) (g r : ℕ) : FVec F S16 .f32 :=
  select (cmpf .oge (row A g r) (eight A g 96).a7) (row A g r) (k0_pay6 (F := F))

/-- A chunk masked. -/
def masked (A : S768x64.Idx → F .f32) : S768x64.Idx → F .f32 :=
  fun i => maskRow A ((i 1).val / 16) (i 0).val (ix1 ⟨(i 1).val % 16, Nat.mod_lt _ (by decide)⟩)

theorem batch_cells (A : S768x64.Idx → F .f32) (g k : ℕ) (off : Fin 8 → Fin 2 → ℕ)
    (inb : ∀ j a, off j a + S1x16.size a ≤ S768x64.size a) (hoff : ∀ j : Fin 8, off j = ![8 * k + j.val, 16 * g]) :
    batch (row A g) k = ⟨shapeCast S16 (cells A (off 0) (inb 0)) shapeCasts_S1x16_S16, shapeCast S16 (cells A (off 1) (inb 1)) shapeCasts_S1x16_S16,
      shapeCast S16 (cells A (off 2) (inb 2)) shapeCasts_S1x16_S16, shapeCast S16 (cells A (off 3) (inb 3)) shapeCasts_S1x16_S16,
      shapeCast S16 (cells A (off 4) (inb 4)) shapeCasts_S1x16_S16, shapeCast S16 (cells A (off 5) (inb 5)) shapeCasts_S1x16_S16,
      shapeCast S16 (cells A (off 6) (inb 6)) shapeCasts_S1x16_S16, shapeCast S16 (cells A (off 7) (inb 7)) shapeCasts_S1x16_S16⟩ := by
  have e (j : Fin 8) := cells_row A (off j) (inb j) g _ (hoff j)
  rw [e 0, e 1, e 2, e 3, e 4, e 5, e 6, e 7]
  rfl

section Tile

variable (d : Dev nD) (L : grid0.Coords)

set_option maxHeartbeats 4000000 in
theorem trip2 (A : Buf (Elt F) ((V d (cV L) (jV L)).loc cc0_scratch0)) (k : Fin k0_t2_loop.trips) (p q : Oct (FVec F S16 .f32)) :
    ((aV).view.loc (V d (cV L) (jV L)) ↦{fullShare} A : sProp 𝕄)
      ⊢ wp frame (wpE (defs₀ (F := F)) 𝒱₀ (V d (cV L) (jV L)) none) Set.univ
          (k0_t2_body L xV (Memref.isWhole_whole _) oV (Memref.isWhole_whole _) aV (Memref.isWhole_whole _) bV (Memref.isWhole_whole _)
            cc0_scoped0 cc0_scoped1 k (pack p q))
          fun acc => iprop(⌜acc = pack (step maximumf minimumf p (batch (row A 0) k)) (step maximumf minimumf q (batch (row A 1) k))⌝
            ∗ (aV).view.loc (V d (cV L) (jV L)) ↦{fullShare} A) := by
  unfold k0_t2_body pack
  iintro Ha
  sl_exec
  sl_step
  isplitr
  · ipureintro
    rw [batch_cells A 0 k (fun j => k0_off2 k (BitVec.ofNat 32 j.val)) (k0_off2_inb k) (k0_off2_eq k),
      batch_cells A 1 k (fun j => k0_off3 k (BitVec.ofNat 32 j.val)) (k0_off3_inb k) (k0_off3_eq k)]
    rfl
  · iexact Ha

set_option maxHeartbeats 4000000 in
theorem trip3 (A : Buf (Elt F) ((V d (cV L) (jV L)).loc cc0_scratch0)) (k : Fin k0_t3_loop.trips) (p q : Oct (FVec F S16 .f32)) :
    ((aV).view.loc (V d (cV L) (jV L)) ↦{fullShare} A : sProp 𝕄)
      ⊢ wp frame (wpE (defs₀ (F := F)) 𝒱₀ (V d (cV L) (jV L)) none) Set.univ
          (k0_t3_body L xV (Memref.isWhole_whole _) oV (Memref.isWhole_whole _) aV (Memref.isWhole_whole _) bV (Memref.isWhole_whole _)
            cc0_scoped0 cc0_scoped1 k (pack p q))
          fun acc => iprop(⌜acc = pack (step maximumf minimumf p (batch (row A 2) k)) (step maximumf minimumf q (batch (row A 3) k))⌝
            ∗ (aV).view.loc (V d (cV L) (jV L)) ↦{fullShare} A) := by
  unfold k0_t3_body pack
  iintro Ha
  sl_exec
  sl_step
  isplitr
  · ipureintro
    rw [batch_cells A 2 k (fun j => k0_off4 k (BitVec.ofNat 32 j.val)) (k0_off4_inb k) (k0_off4_eq k),
      batch_cells A 3 k (fun j => k0_off5 k (BitVec.ofNat 32 j.val)) (k0_off5_inb k) (k0_off5_eq k)]
    rfl
  · iexact Ha

theorem mem_piece (off : Fin 2 → ℕ) (inb : ∀ a, off a + S1x16.size a ≤ S768x64.size a) (g r : ℕ) (hoff : off = ![r, 16 * g]) (y : S768x64.Idx) :
    y ∈ (Rect.unit (s := S768x64) off S1x16.size inb).set ↔ (y 0).val = r ∧ (y 1).val / 16 = g := by
  subst hoff
  rw [Rect.mem_set_unit, Fin.forall_fin_two]
  show (r ≤ (y 0).val ∧ (y 0).val < r + 1) ∧ (16 * g ≤ (y 1).val ∧ (y 1).val < 16 * g + 16) ↔ _
  omega

theorem piece_masked (A : S768x64.Idx → F .f32) (off : Fin 2 → ℕ) (inb : ∀ a, off a + S1x16.size a ≤ S768x64.size a) (g r : ℕ)
    (hoff : off = ![r, 16 * g]) (x : S1x16.Idx) :
    shapeCast S1x16 (select (cmpf .oge (shapeCast S16 (cells A off inb) shapeCasts_S1x16_S16) (eight A g 96).a7)
        (shapeCast S16 (cells A off inb) shapeCasts_S1x16_S16) (k0_pay6 (F := F))) shapeCasts_S16_S1x16 x
      = masked A ((Rect.unit (s := S768x64) off S1x16.size inb).emb x) := by
  rw [cells_row A off inb g r hoff]
  subst hoff
  have h0 : (x 0).val < 1 := (x 0).isLt
  have h1 : (x 1).val < 16 := (x 1).isLt
  have e0 : ((Rect.unit (s := S768x64) ![r, 16 * g] S1x16.size inb).emb x 0).val = r := by
    show r + 1 * (x 0).val = r
    omega
  have e1 : ((Rect.unit (s := S768x64) ![r, 16 * g] S1x16.size inb).emb x 1).val = 16 * g + (x 1).val := by
    show 16 * g + 1 * (x 1).val = _
    omega
  rw [shapeCast_apply _ shapeCasts_S16_S1x16 x (ix1 (x 1)) (by rw [Shape.rowMajor_val_two, Shape.rowMajor_val_one]; simp; omega), masked]
  simp only [e0, e1]
  show maskRow A g r _ = _
  rw [show (16 * g + (x 1).val) / 16 = g by omega]
  congr 2
  apply Fin.ext
  show (x 1).val = (16 * g + (x 1).val) % 16
  omega

/-- Rows below `k` are masked. -/
def MaskedTo (A g : S768x64.Idx → F .f32) (k : ℕ) : Prop := ∀ i : S768x64.Idx, (i 0).val < k → g i = masked A i

/-- The chunk held, and its first `k` rows masked. -/
def inv4 (A : Buf (Elt F) ((V d (cV L) (jV L)).loc cc0_scratch0)) (k : ℕ) (_ : Unit) : sProp 𝕄 :=
  iprop(((aV).view.loc (V d (cV L) (jV L)) ↦{fullShare} A)
    ∗ ∃ g : Buf (Elt F) ((V d (cV L) (jV L)).loc cc0_scratch1), ⌜MaskedTo A g k⌝ ∗ ((bV).view.loc (V d (cV L) (jV L)) ↦{fullShare} g))

set_option maxHeartbeats 4000000 in
theorem trip4 (A : Buf (Elt F) ((V d (cV L) (jV L)).loc cc0_scratch0)) (k : Fin k0_t4_loop.trips) :
    inv4 d L A k ()
      ⊢ wp frame (wpE (defs₀ (F := F)) 𝒱₀ (V d (cV L) (jV L)) none) Set.univ
          (k0_t4_body L xV (Memref.isWhole_whole _) oV (Memref.isWhole_whole _) aV (Memref.isWhole_whole _) bV (Memref.isWhole_whole _)
            cc0_scoped0 cc0_scoped1 (eight A 0 96).a7 (eight A 1 96).a7 (eight A 2 96).a7 (eight A 3 96).a7 k ())
          (inv4 d L A (k + 1)) := by
  unfold k0_t4_body inv4
  iintro ⟨Ha, %B, %hB, Hb⟩
  sl_exec
  sl_step
  isplitl [Ha]
  · iexact Ha
  iexists _
  isplitr
  swap
  · iexact Hb
  · ipureintro
    intro i hi
    have hi1 : (i 1).val < 64 := (i 1).isLt
    have hr (pieces : List (View.Piece (Elt F) S768x64 .f32)) :
        (bV).view.read (Elt F) ((bV).view.writes (Elt F) B pieces) i = (bV).view.writes (Elt F) B pieces i := rfl
    refine (hr _).symm.trans ?_
    by_cases hk : (i 0).val = k.val
    · refine View.read_writes_apply_of_pieces (bV).view B (masked A) _ ?_ i ?_
      · intro p hp x
        simp only [List.mem_cons, List.not_mem_nil, or_false] at hp
        obtain rfl | rfl | rfl | rfl := hp
        · exact piece_masked A _ (k0_off9_inb k) 3 _ (k0_off9_eq k) x
        · exact piece_masked A _ (k0_off8_inb k) 2 _ (k0_off8_eq k) x
        · exact piece_masked A _ (k0_off7_inb k) 1 _ (k0_off7_eq k) x
        · exact piece_masked A _ (k0_off6_inb k) 0 _ (k0_off6_eq k) x
      · simp only [List.exists_mem_cons_iff]
        rw [mem_piece _ _ 3 _ (k0_off9_eq k), mem_piece _ _ 2 _ (k0_off8_eq k), mem_piece _ _ 1 _ (k0_off7_eq k), mem_piece _ _ 0 _ (k0_off6_eq k)]
        omega
    · refine (View.read_writes_apply_of_forall_not_mem (bV).view B i _ ?_).trans (hB i (by omega))
      intro p hp
      simp only [List.mem_cons, List.not_mem_nil, or_false] at hp
      obtain rfl | rfl | rfl | rfl := hp
      · rw [mem_piece _ _ 3 _ (k0_off9_eq k)]; omega
      · rw [mem_piece _ _ 2 _ (k0_off8_eq k)]; omega
      · rw [mem_piece _ _ 1 _ (k0_off7_eq k)]; omega
      · rw [mem_piece _ _ 0 _ (k0_off6_eq k)]; omega

end Tile

end Cert.Proof.TileKernelIdeal

end
-- ==== Proof.ImageKernelIdeal.lean ====
/-
  The chunks of one image: which places they are, what a fetch brings and what a store leaves.
-/
module

public import proofs.«01_k».proof.Proof.TileKernelIdeal

@[expose] public section

noncomputable section

namespace Cert.Proof.TileKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Net (Oct batch running step)

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S32x768x1024 EltTy.f32)
local notation "oV" => (Memref.whole Cert.KernelIdeal.main_v1_scv : Memref Cert.KernelIdeal.sig Kind.scVector Space.hbm Cert.KernelIdeal.S32x768x1024 EltTy.f32)
local notation "aV" => (Memref.whole Cert.KernelIdeal.cc0_scratch0 : Memref Cert.KernelIdeal.sig Kind.scVector Space.vmem Cert.KernelIdeal.S768x64 EltTy.f32)
local notation "bV" => (Memref.whole Cert.KernelIdeal.cc0_scratch1 : Memref Cert.KernelIdeal.sig Kind.scVector Space.vmem Cert.KernelIdeal.S768x64 EltTy.f32)

variable [FloatOps F]

/-! ## What the call leaves, as a function of the array it reads -/

theorem bound_zero : grid0.bound 0 = 2 := rfl
theorem bound_one : grid0.bound 1 = 16 := rfl

/-- The image a subcore of a SparseCore works on. -/
def image (c : Fin 2) (s : Fin 16) : Fin 32 := ⟨2 * s.val + c.val, by omega⟩

abbrev imageL (L : grid0.Coords) : Fin 32 := image (Fin.cast bound_zero (L 0)) (Fin.cast bound_one (L 1))

/-- Chunk `j` of image `b`: 64 of its positions, all channels. -/
def chunk (X : S32x768x1024.Idx → F .f32) (b : Fin 32) (j : ℕ) : S768x64.Idx → F .f32 :=
  fun i => if h : 64 * j + (i 1).val < 1024 then X (ix3 b (i 0) ⟨64 * j + (i 1).val, h⟩) else Scalar.ofBits .f32 0#32

/-- The array the call leaves. -/
def kept (X : S32x768x1024.Idx → F .f32) : S32x768x1024.Idx → F .f32 :=
  fun y => masked (chunk X (y 0) ((y 2).val / 64)) (ix2 (y 1) ⟨(y 2).val % 64, Nat.mod_lt _ (by decide)⟩)

/-- One image's part of an array of images. -/
def rowSet (b : Fin 32) : Finset S32x768x1024.Idx := Finset.univ.filter fun y => (y 0).val = b.val

theorem mem_rowSet (b : Fin 32) (y : S32x768x1024.Idx) : y ∈ rowSet b ↔ (y 0).val = b.val := by simp [rowSet]

/-- The first `k` chunks of image `b` are in place. -/
def KeptTo (X f : S32x768x1024.Idx → F .f32) (b : Fin 32) (k : ℕ) : Prop :=
  ∀ y : S32x768x1024.Idx, (y 0).val = b.val → (y 2).val < 64 * k → f y = kept X y

section Subcore

variable (d : Dev nD) (L : grid0.Coords)

abbrev thr : Thread nD τ := V d (cV L) (jV L)

abbrev chunkRect (k : Fin k0_t1_loop.trips) : Rect S32x768x1024 := Rect.unit (s := S32x768x1024) (k0_off1 L k) S1x768x64.size (k0_off1_inb L k)
abbrev xCh (k : Fin k0_t1_loop.trips) : Memref sig .scVector .hbm S768x64 .f32 := ((xV).slice (chunkRect L k) (fun _ => rfl)).squeeze S768x64 squeezes_S1x768x64_S768x64
abbrev oCh (k : Fin k0_t1_loop.trips) : Memref sig .scVector .hbm S768x64 .f32 := ((oV).slice (chunkRect L k) (fun _ => rfl)).squeeze S768x64 squeezes_S1x768x64_S768x64

theorem set_oCh (k : Fin k0_t1_loop.trips) : (oCh L k).view.set = (chunkRect L k).set := by
  show (((oV).view.slice (chunkRect L k)).reshape S768x64 squeezes_S1x768x64_S768x64.numel_eq).set = _
  rw [View.set_reshape, View.set_slice]
  exact Finset.map_refl

theorem mem_oCh (k : Fin k0_t1_loop.trips) (y : S32x768x1024.Idx) :
    y ∈ (chunkRect L k).set ↔ (y 0).val = (imageL L).val ∧ (y 2).val / 64 = k.val := by
  have h1 : (y 1).val < 768 := (y 1).isLt
  unfold chunkRect
  rw [Rect.mem_set_unit, Fin.forall_fin_succ, Fin.forall_fin_two, k0_off1_eq]
  show (2 * (L 1).val + (L 0).val ≤ (y 0).val ∧ (y 0).val < 2 * (L 1).val + (L 0).val + 1)
    ∧ (0 ≤ (y 1).val ∧ (y 1).val < 0 + 768) ∧ (64 * k.val ≤ (y 2).val ∧ (y 2).val < 64 * k.val + 64) ↔ (y 0).val = 2 * (L 1).val + (L 0).val ∧ _
  omega

theorem chunk_lt (k : Fin k0_t1_loop.trips) : k.val < 16 := Nat.lt_of_lt_of_le k.isLt k0_t1_abs.2.1

theorem emb_oCh (k : Fin k0_t1_loop.trips) (i : S768x64.Idx) :
    ((oCh L k).view.emb i : S32x768x1024.Idx)
      = ix3 (imageL L) (i 0) ⟨64 * k.val + (i 1).val, by have := chunk_lt k; have : (i 1).val < 64 := (i 1).isLt; omega⟩ := by
  have e : Shape.reshapeEquiv squeezes_S1x768x64_S768x64.numel_eq i = (ix3 (n0 := 1) (n1 := 768) (n2 := 64) 0 (i 0) (i 1) : S1x768x64.Idx) := by
    apply Shape.reshapeEquiv_eq_of_rowMajor
    rw [Shape.rowMajor_val_two, Shape.rowMajor_val_three]
    simp
  have e2 : ((oCh L k).view.emb i : S32x768x1024.Idx)
      = (chunkRect L k).emb (Shape.reshapeEquiv squeezes_S1x768x64_S768x64.numel_eq i) := rfl
  rw [e2, e]
  funext a
  apply Fin.ext
  show k0_off1 L k a + 1 * _ = _
  rw [k0_off1_eq]
  match a with
  | 0 => simp [image]; rfl
  | 1 => simp
  | 2 => simp

theorem fetched (X : S32x768x1024.Idx → F .f32) (k : Fin k0_t1_loop.trips) (a : S768x64.Idx → F .f32) :
    View.write (Elt F) (aV).view a ((xCh L k).view.read (Elt F) X) Finset.univ = chunk X (imageL L) k.val := by
  refine (View.write_whole_univ (Val := Elt F) cc0_scratch0 a _).trans ?_
  funext i
  have := chunk_lt k
  have : (i 1).val < 64 := (i 1).isLt
  rw [chunk, dif_pos (by omega)]
  exact congrArg X (emb_oCh L k i)

theorem kept_chunk (X : S32x768x1024.Idx → F .f32) (k : Fin k0_t1_loop.trips) (i : S768x64.Idx) :
    kept X ((oCh L k).view.emb i) = masked (chunk X (imageL L) k.val) i := by
  have hi : (i 1).val < 64 := (i 1).isLt
  rw [emb_oCh]
  show masked (chunk X (imageL L) ((64 * k.val + (i 1).val) / 64)) _ = _
  rw [show (64 * k.val + (i 1).val) / 64 = k.val by omega]
  congr 1
  funext a
  apply Fin.ext
  match a with
  | 0 => rfl
  | 1 => show (64 * k.val + (i 1).val) % 64 = (i 1).val; omega

/-- The array after chunk `k` is stored from `g`. -/
abbrev after (f : S32x768x1024.Idx → F .f32) (k : Fin k0_t1_loop.trips) (g : S768x64.Idx → F .f32) : S32x768x1024.Idx → F .f32 :=
  (oCh L k).view.writes (Elt F) f [⟨Rect.whole S768x64, (bV).view.read (Elt F) g⟩]

theorem after_off (f : S32x768x1024.Idx → F .f32) (k : Fin k0_t1_loop.trips) (g : S768x64.Idx → F .f32) (y : S32x768x1024.Idx)
    (hy : y ∉ (oCh L k).view.set) : after L f k g y = f y :=
  View.writes_apply_of_forall_ne (Val := Elt F) (oCh L k).view f _ fun i e => hy (e ▸ View.emb_mem_set (oCh L k).view i)

theorem after_on (f : S32x768x1024.Idx → F .f32) (k : Fin k0_t1_loop.trips) (g : S768x64.Idx → F .f32) (i : S768x64.Idx) :
    after L f k g ((oCh L k).view.emb i) = g i :=
  View.read_writes_cons_hit_of_coords (Val := Elt F) (oCh L k).view f (Rect.whole S768x64) ((bV).view.read (Elt F) g) [] i i fun a => by
    show (i a).val = 0 + 1 * (i a).val
    omega

/-- Storing the masked chunk puts one chunk more in place. -/
theorem stored (X f : S32x768x1024.Idx → F .f32) (k : Fin k0_t1_loop.trips) (g : S768x64.Idx → F .f32)
    (hf : KeptTo X f (imageL L) k.val) (hg : g = masked (chunk X (imageL L) k.val)) : KeptTo X (after L f k g) (imageL L) (k.val + 1) := by
  intro y hy hlt
  by_cases hk : (y 2).val / 64 = k.val
  · have hm : y ∈ (oCh L k).view.set := by rw [set_oCh]; exact (mem_oCh L k y).mpr ⟨hy, hk⟩
    obtain ⟨i, -, rfl⟩ := Finset.mem_map.mp hm
    rw [after_on, kept_chunk, ← hg]
  · have hm : y ∉ (oCh L k).view.set := by rw [set_oCh]; exact fun h => hk ((mem_oCh L k y).mp h).2
    rw [after_off L f k g y hm]
    exact hf y hy (by omega)

end Subcore
end Cert.Proof.TileKernelIdeal
end
-- ==== Proof.BodyKernelIdeal.lean ====
/-
  One vector subcore's whole work: its sixteen chunks, each fetched, masked and stored.
-/
module

public import proofs.«01_k».proof.Proof.ImageKernelIdeal

@[expose] public section

noncomputable section

namespace Cert.Proof.TileKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Net (Oct batch running step)

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S32x768x1024 EltTy.f32)
local notation "oV" => (Memref.whole Cert.KernelIdeal.main_v1_scv : Memref Cert.KernelIdeal.sig Kind.scVector Space.hbm Cert.KernelIdeal.S32x768x1024 EltTy.f32)
local notation "aV" => (Memref.whole Cert.KernelIdeal.cc0_scratch0 : Memref Cert.KernelIdeal.sig Kind.scVector Space.vmem Cert.KernelIdeal.S768x64 EltTy.f32)
local notation "bV" => (Memref.whole Cert.KernelIdeal.cc0_scratch1 : Memref Cert.KernelIdeal.sig Kind.scVector Space.vmem Cert.KernelIdeal.S768x64 EltTy.f32)

variable [FloatOps F]

section Subcore

variable (d : Dev nD) (L : grid0.Coords)

/-- What the subcore holds before chunk `k`. -/
def inv1 (X : Buf (Elt F) ((thr d L).loc main_v0_scv)) (q : PosShare TreeShare) (O : CellTallies nD τ sig (HIx 1)) (W : Waits sig (HIx 1))
    (k : ℕ) (_ : Unit) : sProp 𝕄 :=
  iprop(Transfers.MayWaits (thr d L) (default : HIx 1) O
    ∗ ((xV).view.loc (thr d L) ↦{q} X)
    ∗ (∃ f : Buf (Elt F) ((thr d L).loc main_v1_scv), ⌜KeptTo X f (imageL L) k⌝ ∗ ((oV).view.loc (thr d L) ↦[rowSet (imageL L)]{fullShare} f))
    ∗ (∃ a : Buf (Elt F) ((thr d L).loc cc0_scratch0), (aV).view.loc (thr d L) ↦{fullShare} a)
    ∗ (∃ b : Buf (Elt F) ((thr d L).loc cc0_scratch1), (bV).view.loc (thr d L) ↦{fullShare} b)
    ∗ semVal (thr d L, .dma cc0_scoped0.sem) 0 ∗ semVal (thr d L, .dma cc0_scoped1.sem) 0
    ∗ ∃ W', ⌜∀ p ∈ W', p ∈ W ∨ p.2 = none⌝ ∗ owes (thr d L) O W')

/-- The chunk held, and the first two lane groups' eights after `k` batches. -/
def inv2 (A : Buf (Elt F) ((thr d L).loc cc0_scratch0)) (k : ℕ) (acc : T16 (F := F)) : sProp 𝕄 :=
  iprop(⌜acc = pack (eight A 0 k) (eight A 1 k)⌝ ∗ (aV).view.loc (thr d L) ↦{fullShare} A)

/-- The same for the other two. -/
def inv3 (A : Buf (Elt F) ((thr d L).loc cc0_scratch0)) (k : ℕ) (acc : T16 (F := F)) : sProp 𝕄 :=
  iprop(⌜acc = pack (eight A 2 k) (eight A 3 k)⌝ ∗ (aV).view.loc (thr d L) ↦{fullShare} A)

theorem trips_t1 : Scf.trips k0_t1_loop.lb k0_t1_loop.ub k0_t1_loop.st = 16 := by decide
theorem trips_t2 : Scf.trips k0_t2_loop.lb k0_t2_loop.ub k0_t2_loop.st = 96 := by decide
theorem trips_t3 : Scf.trips k0_t3_loop.lb k0_t3_loop.ub k0_t3_loop.st = 96 := by decide
theorem trips_t4 : Scf.trips k0_t4_loop.lb k0_t4_loop.ub k0_t4_loop.st = 768 := by decide

theorem trip1 (X : Buf (Elt F) ((thr d L).loc main_v0_scv)) (q : PosShare TreeShare)
    (O : CellTallies nD τ sig (HIx 1)) (W : Waits sig (HIx 1)) (k : Fin k0_t1_loop.trips) :
    inv1 d L X q O W k ()
      ⊢ wp frame (wpE (defs₀ (F := F)) 𝒱₀ (thr d L) none) Set.univ
          (k0_t1_body L xV (Memref.isWhole_whole _) oV (Memref.isWhole_whole _) aV (Memref.isWhole_whole _) bV (Memref.isWhole_whole _)
            cc0_scoped0 cc0_scoped1 k ())
          (inv1 d L X q O W (k + 1)) := by
  unfold k0_t1_body
  rw [inv1]
  iintro ⟨#Hmw, Hx, ⟨%f, %hf, Ho⟩, ⟨%a, Ha⟩, ⟨%b, Hb⟩, Hs0, Hs1, %W', %hW', HO⟩
  sl_exec (disch := exact View.amount_pos _ _ (show 0 < S768x64.numel by decide))
  ihave Ha1 := (Entails.of_eq (show ((aV).view.loc (thr d L) ↦{fullShare} View.write (Elt F) (aV).view a (trip1.sl.dma0 d L X k) Finset.univ : sProp 𝕄)
      = (aV).view.loc (thr d L) ↦{fullShare} chunk X (imageL L) k from
    congrArg (fun z => ((aV).view.loc (thr d L) ↦{fullShare} z : sProp 𝕄)) (fetched L X k a))) $$ Ha
  sl_for (inv2 d L (chunk X (imageL L) k)) $$ [Ha1]
  case region =>
    intro k2 acc
    unfold inv2
    iintro ⟨%hacc, Ha⟩
    rw [hacc]
    exact trip2 d L _ k2 _ _
  · unfold inv2
    isplitr
    · ipureintro; rfl
    · iexact Ha1
  iintro %acc2 H2
  rw [trips_t2]
  unfold inv2
  icases H2 with ⟨%h2, Ha⟩
  subst h2
  unfold pack
  sl_exec
  sl_for (inv3 d L (chunk X (imageL L) k)) $$ [Ha]
  case region =>
    intro k3 acc
    unfold inv3
    iintro ⟨%hacc, Ha⟩
    rw [hacc]
    exact trip3 d L _ k3 _ _
  · unfold inv3
    isplitr
    · ipureintro; rfl
    · iexact Ha
  iintro %acc3 H3
  rw [trips_t3]
  unfold inv3
  icases H3 with ⟨%h3, Ha⟩
  subst h3
  unfold pack
  sl_exec
  sl_for (inv4 d L (chunk X (imageL L) k)) $$ [Ha Hb]
  case region =>
    intro k4 acc
    exact trip4 d L _ k4
  · unfold inv4
    isplitl [Ha]
    · iexact Ha
    · iexists b
      isplitr
      · ipureintro; exact fun i hi => absurd hi (Nat.not_lt_zero _)
      · iexact Hb
  iintro %acc4 H4
  rw [trips_t4]
  unfold inv4
  icases H4 with ⟨Ha, %g, %hg, Hb⟩
  have hg' : g = masked (chunk X (imageL L) k) := funext fun i => hg i (i 0).isLt
  have hsub : (oCh L k).view.set ⊆ rowSet (imageL L) := fun y hy => by
    rw [set_oCh] at hy; exact (mem_rowSet _ y).mpr ((mem_oCh L k y).mp hy).1
  ihave Hos := (pointsTo_split_subset (q := fullShare) (f := f) (S := rowSet (imageL L)) hsub).1 $$ Ho
  icases Hos with ⟨Hc, Hr⟩
  ihave Hc1 := (Entails.of_eq (show ((thr d L).loc main_v1_scv ↦[(oCh L k).view.set]{fullShare} f : sProp 𝕄)
      = (oCh L k).view.loc (thr d L) ↦[(oCh L k).view.set]{fullShare} f from rfl)) $$ Hc
  sl_exec (disch := exact View.amount_pos _ _ (show 0 < S768x64.numel by decide))
  sl_step
  ihave Hc2 := (Entails.of_eq (show ((oCh L k).view.loc (thr d L) ↦[(oCh L k).view.set]{fullShare}
        (oCh L k).view.writes (Elt F) f [⟨Rect.whole S768x64, trip1.sl.dma0_1 d L g⟩] : sProp 𝕄)
      = (thr d L).loc main_v1_scv ↦[(oCh L k).view.set]{fullShare} after L f k g from rfl)) $$ Hc1
  ihave Hr2 := (Entails.of_eq (show ((thr d L).loc main_v1_scv ↦[rowSet (imageL L) \ (oCh L k).view.set]{fullShare} f : sProp 𝕄)
      = (thr d L).loc main_v1_scv ↦[rowSet (imageL L) \ (oCh L k).view.set]{fullShare} after L f k g from
    pointsTo_congr fun y hy => (after_off L f k g y (Finset.mem_sdiff.mp hy).2).symm)) $$ Hr
  ihave Ho := (pointsTo_split_subset (ℓ := (thr d L).loc main_v1_scv) (q := fullShare) (f := after L f k g) (S := rowSet (imageL L)) hsub).2 $$ [Hc2 Hr2]
  · isplitl [Hc2] <;> iassumption
  unfold inv1
  isplitr
  · iexact Hmw
  isplitl [Hx]
  · iexact Hx
  isplitl [Ho]
  · iexists (after L f k g)
    isplitr
    · ipureintro; exact stored L X f k g hf hg'
    · iexact Ho
  isplitl [Ha]
  · iexists _; iexact Ha
  isplitl [Hb]
  · iexists _; iexact Hb
  isplitl [Hs0]
  · iexact Hs0
  isplitl [Hs1]
  · iexact Hs1
  iexists _
  isplitr
  swap
  · iexact HO
  ipureintro
  intro p hp
  rcases Finset.mem_insert.mp hp with hp | hp
  · exact .inr (hp ▸ rfl)
  rcases Finset.mem_insert.mp hp with hp | hp
  · exact .inr (hp ▸ rfl)
  exact hW' p hp

end Subcore

end Cert.Proof.TileKernelIdeal

end
-- ==== Proof.LaunchKernelIdeal.lean ====
/-
  The whole program: the two reshapes and the call between them, whose thirty-two subcores each keep one image.
-/
module

public import proofs.«01_k».proof.Proof.BodyKernelIdeal

@[expose] public section

noncomputable section

namespace Cert.Proof.TileKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Net (Oct batch running step)

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S32x768x1024 EltTy.f32)
local notation "oV" => (Memref.whole Cert.KernelIdeal.main_v1_scv : Memref Cert.KernelIdeal.sig Kind.scVector Space.hbm Cert.KernelIdeal.S32x768x1024 EltTy.f32)
local notation "aV" => (Memref.whole Cert.KernelIdeal.cc0_scratch0 : Memref Cert.KernelIdeal.sig Kind.scVector Space.vmem Cert.KernelIdeal.S768x64 EltTy.f32)
local notation "bV" => (Memref.whole Cert.KernelIdeal.cc0_scratch1 : Memref Cert.KernelIdeal.sig Kind.scVector Space.vmem Cert.KernelIdeal.S768x64 EltTy.f32)

open Idealize.ShloMosaic.ShareLeaves (leaf pointsTo_leaves)
open Idealize.ShloMosaic.StableHlo (held wp_hlo_within)

variable [FloatOps F]

abbrev D : Defs nD τ sig (Elt F) (ΛP (F := F)) := Pipeline.defs pcfgs defs₀
abbrev 𝒱 : Variants := 𝒱₀.lift
abbrev v₀ : 𝒱.V := Sum.inl none
theorem nCore_zero : (K (F := F)).nCore 0 = 2 := rfl
theorem nSub_zero : (K (F := F)).nSub 0 = 16 := rfl

theorem call_facts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

abbrev EH : Emb UH (MT nD τ sig (HIx 1) (Elt F) ℕ UU ℕ) := embL

variable (m : (ℓ : Loc nD τ sig) → Buf (Elt F) ℓ) (ρ : Dev nD → PrngReg)

abbrev aLoc (d : Dev nD) : Loc nD τ sig := (SparseCore.T d).loc main_arg0
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- The argument with each image's positions in one row. -/
def flat (d : Dev nD) : S32x768x1024.Idx → F .f32 := shapeCast S32x768x1024 (m (aLoc d)) shapeCasts_S32x768x32x32_S32x768x1024

/-- What the kernel returns. -/
def result (d : Dev nD) : S32x768x32x32.Idx → F .f32 := shapeCast S32x768x32x32 (kept (flat m d)) shapeCasts_S32x768x1024_S32x768x32x32

/-! ## What each subcore is handed and hands back -/

abbrev xPt (d : Dev nD) (w : Fin 32) : sProp 𝕄 := xLoc d ↦{leaf 5 fullShare w} flat m d
abbrev oPt (d : Dev nD) (w : Fin 32) (f : Buf (Elt F) (oLoc d)) : sProp 𝕄 := oLoc d ↦[rowSet w]{fullShare} f
abbrev given (d : Dev nD) (w : Fin 32) : sProp 𝕄 := iprop(xPt m d w ∗ oPt d w (m (oLoc d)))
abbrev done (d : Dev nD) (w : Fin 32) : sProp 𝕄 := iprop(xPt m d w ∗ oPt d w (kept (flat m d)))

abbrev imageK (c : Fin ((K (F := F)).nCore 0)) (i : Fin ((K (F := F)).nSub 0)) : Fin 32 := image (Fin.cast nCore_zero c) (Fin.cast nSub_zero i)

def P : (K (F := F)).Pay (nD := nD) (Val := Elt F) (Name := ℕ) (U := UU) where
  st := fun q d c => match q with | 0 => bigSep Finset.univ fun i => given m d (imageK c i)
  dn := fun q d c => match q with | 0 => bigSep Finset.univ fun i => done m d (imageK c i)
  go := fun q d c i => match q with | 0 => given m d (imageK c i)
  td := fun q d c i => match q with | 0 => done m d (imageK c i)
  x := fun _ _ => iprop(emp)

instance P_storable : (P (F := F) m).IsStorable where
  st q d c := match q with
    | 0 => (inferInstance : BI.Storable (upEmb : UEmb _ 𝕄) (bigSep Finset.univ fun i => given m d (imageK (F := F) c i)))
  dn q d c := match q with
    | 0 => (inferInstance : BI.Storable (upEmb : UEmb _ 𝕄) (bigSep Finset.univ fun i => done m d (imageK (F := F) c i)))
  go q d c i := match q with
    | 0 => (inferInstance : BI.Storable (upEmb : UEmb _ 𝕄) (given m d (imageK (F := F) c i)))
  td q d c i := match q with
    | 0 => (inferInstance : BI.Storable (upEmb : UEmb _ 𝕄) (done m d (imageK (F := F) c i)))

/-! ## One subcore -/

section Subcore

variable (d : Dev nD) (L : grid0.Coords)

abbrev inCell : GSem nD τ sig := (thr d L, .dma cc0_scoped0.sem)
abbrev outCell : GSem nD τ sig := (thr d L, .dma cc0_scoped1.sem)

theorem sems_open :
    (ownSems0 (thr d L) : sProp 𝕄) = iprop(semVal (inCell d L) 0 ∗ semVal (outCell d L) 0
      ∗ bigSep (((ownCells (thr d L)).erase (inCell d L)).erase (outCell d L)) fun g => semVal g 0) := by
  have hin : inCell d L ∈ ownCells (thr d L) := mem_ownCells.mpr ⟨rfl, by
    show (SemLoc.dma cc0_scoped0.sem : SemLoc sig).isScoped .scVector = true; decide⟩
  have hout : outCell d L ∈ ownCells (thr d L) := mem_ownCells.mpr ⟨rfl, by
    show (SemLoc.dma cc0_scoped1.sem : SemLoc sig).isScoped .scVector = true; decide⟩
  have hne : outCell d L ≠ inCell d L := by simp [inCell, outCell]; decide
  unfold SparseCore.Cfg.ownSems0
  rw [SparseCore.bigSep_erase' hin, SparseCore.bigSep_erase' (Finset.mem_erase.mpr ⟨hne, hout⟩)]

abbrev inRef : DevRef τ sig := (Proc.scVector (cV L) (jV L)).devRef cc0_scratch0
abbrev outRef : DevRef τ sig := (Proc.scVector (cV L) (jV L)).devRef cc0_scratch1

theorem bufs_open :
    (ownBufs (thr d L) : sProp 𝕄) = iprop((∃ f, (thr d L).loc cc0_scratch0 ↦{fullShare} f) ∗ (∃ f, (thr d L).loc cc0_scratch1 ↦{fullShare} f)
      ∗ bigSep (((ownRefs (τ := τ) (.scVector (cV L) (jV L))).erase (inRef L)).erase (outRef L))
          fun b => iprop(∃ f, ((d, b) : Loc nD τ sig) ↦{fullShare} f)) := by
  have hin : inRef L ∈ ownRefs (τ := τ) (.scVector (cV L) (jV L)) :=
    SparseCore.Cfg.mem_ownRefs_of_owner (p := Proc.scVector (cV L) (jV L)) (b := inRef L) rfl
  have hout : outRef L ∈ ownRefs (τ := τ) (.scVector (cV L) (jV L)) :=
    SparseCore.Cfg.mem_ownRefs_of_owner (p := Proc.scVector (cV L) (jV L)) (b := outRef L) rfl
  have hne : outRef L ≠ inRef L := fun e => absurd (Proc.devRef_injective _ e) (show (cc0_scratch1 : Ref sig .scVector) ≠ cc0_scratch0 by decide)
  unfold SparseCore.Cfg.ownBufs
  refine (SparseCore.bigSep_erase' hin).trans ?_
  rw [SparseCore.bigSep_erase' (Finset.mem_erase.mpr ⟨hne, hout⟩)]

theorem subcore (hF : (K (F := F)).Facts) (O : CellTallies nD τ sig (HIx 1)) (W : Waits sig (HIx 1)) (hO : ∀ g, O g none = 0) :
    iprop(levAts (K (F := F)).L (K (F := F)).lev ∗ emp ∗ given m d (imageL L)
        ∗ scopedBufs (thr d L) ∗ scopedSems0 (thr d L) ∗ owes (thr d L) O W)
      ⊢ wp frame (wpE (defs₀ (F := F)) 𝒱₀ (thr d L) none) Set.univ
          (cc0__sc_body L xV (Memref.isWhole_whole _) oV (Memref.isWhole_whole _) aV (Memref.isWhole_whole _) bV (Memref.isWhole_whole _)
            cc0_scoped0 cc0_scoped1)
          fun _ => iprop(done m d (imageL L) ∗ scopedBufs (thr d L) ∗ scopedSems0 (thr d L)
            ∗ ∃ W', ⌜∀ p ∈ W', p ∈ W ∨ p.2 = none⌝ ∗ owes (thr d L) O W') := by
  simp only [cc0__sc_body_eq_skeleton]; unfold cc0__sc_body_skel
  rw [(K (F := F)).scopedBufs_V hF d (cV L) (jV L), SparseCore.Cfg.scopedSems0_V (Val := Elt F) d (cV L) (jV L), sems_open, bufs_open]
  iintro ⟨#Hlv, -, ⟨Hx, Ho⟩, ⟨⟨%a, Ha⟩, ⟨%b, Hb⟩, Hbufs⟩, ⟨Hs0, Hs1, Hsems⟩, HO⟩
  ihave Hmw := (show levAts (K (F := F)).L (K (F := F)).lev ⊢ Transfers.MayWaits (thr d L) (default : HIx 1) O from
    (K (F := F)).mayWaits_none (thr := thr d L) hO) $$ Hlv
  sl_for (inv1 d L (flat m d) (leaf 5 fullShare (imageL L)) O W) $$ [Hmw Hx Ho Ha Hb Hs0 Hs1 HO]
  case region =>
    intro k acc
    exact trip1 d L _ _ O W k
  · unfold inv1
    isplitl [Hmw]
    · iexact Hmw
    isplitl [Hx]
    · iexact Hx
    isplitl [Ho]
    · iexists (m (oLoc d))
      isplitr
      · ipureintro; exact fun y _ h => absurd h (by omega)
      · iexact Ho
    isplitl [Ha]
    · iexists a; iexact Ha
    isplitl [Hb]
    · iexists b; iexact Hb
    isplitl [Hs0]
    · iexact Hs0
    isplitl [Hs1]
    · iexact Hs1
    iexists W
    isplitr
    · ipureintro; exact fun p hp => .inl hp
    · iexact HO
  iintro %acc H1
  rw [trips_t1]
  unfold inv1
  icases H1 with ⟨-, Hx, ⟨%f, %hf, Ho⟩, ⟨%a', Ha⟩, ⟨%b', Hb⟩, Hs0, Hs1, HO⟩
  have hk : ∀ y ∈ rowSet (imageL L), f y = kept (flat m d) y := fun y hy =>
    hf y ((mem_rowSet _ y).mp hy) (show (y 2).val < 1024 from (y 2).isLt)
  ihave Ho1 := (Entails.of_eq (show ((oV).view.loc (thr d L) ↦[rowSet (imageL L)]{fullShare} f : sProp 𝕄) = oPt d (imageL L) (kept (flat m d)) from
    pointsTo_congr hk)) $$ Ho
  sl_exec
  sl_step
  isplitl [Hx Ho1]
  · isplitl [Hx]
    · iexact Hx
    · iexact Ho1
  isplitl [Ha Hb Hbufs]
  · isplitl [Ha]
    · iexists a'; iexact Ha
    isplitl [Hb]
    · iexists b'; iexact Hb
    iexact Hbufs
  isplitl [Hs0 Hs1 Hsems]
  · isplitl [Hs0]
    · iexact Hs0
    isplitl [Hs1]
    · iexact Hs1
    iexact Hsems
  iexact HO

end Subcore

/-! ## The call's obligations -/

/-- The pair of coordinates a SparseCore and one of its subcores make. -/
def pairOf (c : Fin (grid0.bound 0)) (s : Fin (grid0.bound 1)) : grid0.Coords :=
  fun | 0 => c | 1 => s | ⟨_ + 2, h⟩ => absurd h (Nat.not_lt.2 (Nat.le_add_left _ _))

theorem vector_defs (c : Fin τ.nSC) (s : Fin τ.nSub) :
    defs₀ (F := F) (.scVector c s) 0 ()
      = SparseCore.onTile hcore0 hsub0 (fun c s => cc0__sc_body (pairOf c s) xV (Memref.isWhole_whole _) oV (Memref.isWhole_whole _)
          aV (Memref.isWhole_whole _) bV (Memref.isWhole_whole _) cc0_scoped0 cc0_scoped1) ⟨⟩ c s := rfl

theorem widen_waits {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]
  · iexact HA
  isplitl [HB]
  · iexact HB
  isplitl [HC]
  · iexact HC
  iexists W'
  isplitr
  · ipureintro; exact fun p hp => (hW' p hp).imp_right Or.inl
  · iexact HO

set_option maxRecDepth 16384 in
theorem subcore_obl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [vector_defs]; simp only [SparseCore.onTile, hci, and_self, ↓reduceDIte]
  exact (subcore m d (pairOf ⟨_, hci.1⟩ ⟨_, hci.2⟩) hF O W hO).trans (wp_mono frame _ _ fun _ => widen_waits)

theorem vec_split : (K (F := F)).VecSplit' (P m) 0 := by
  intro d c
  show (bigSep Finset.univ fun i => given m d (imageK (F := F) c i)) ⊢ |={Set.univ}=> iprop((bigSep Finset.univ fun i => given m d (imageK (F := F) c i))
    ∗ ((bigSep Finset.univ fun i => done m d (imageK (F := F) c i)) -∗ bigSep Finset.univ fun i => done m d (imageK (F := F) c i)))
  iintro H
  imodintro
  isplitl [H]
  · iexact H
  iintro H
  iexact H

/-! ## The arrays dealt to the 32 subcores -/

/-- The 32 images are the pairs of a SparseCore and a subcore. -/
def imageEquiv : Fin ((K (F := F)).nCore 0) × Fin ((K (F := F)).nSub 0) ≃ Fin 32 where
  toFun p := imageK p.1 p.2
  invFun w := (⟨w.val % 2, Nat.mod_lt _ (by decide)⟩, ⟨w.val / 2, by show w.val / 2 < 16; omega⟩)
  left_inv := fun ⟨c, i⟩ => by
    have hc : c.val < 2 := c.isLt
    refine Prod.ext (Fin.ext ?_) (Fin.ext ?_)
    · show (2 * i.val + c.val) % 2 = c.val; omega
    · show (2 * i.val + c.val) / 2 = i.val; omega
  right_inv := fun w => Fin.ext (by show 2 * (w.val / 2) + w.val % 2 = w.val; omega)

theorem deal (Φ : Fin 32 → sProp 𝕄) :
    bigSep Finset.univ Φ = bigSep Finset.univ fun c => bigSep Finset.univ fun i => Φ (imageK (F := F) c i) := by
  rw [bigSep_univ_equiv (imageEquiv (F := F)) Φ, bigSep_univ_prod]
  rfl

theorem rows_disjoint : ∀ i ∈ (Finset.univ : Finset (Fin 32)), ∀ j ∈ (Finset.univ : Finset (Fin 32)), i ≠ j → Disjoint (rowSet i) (rowSet j) :=
  fun i _ j _ hij => Finset.disjoint_left.mpr fun y hi hj => hij (Fin.ext (((mem_rowSet i y).mp hi).symm.trans ((mem_rowSet j y).mp hj)))

theorem rows_cover : (Finset.univ : Finset (Fin 32)).biUnion rowSet = Finset.univ :=
  Finset.eq_univ_of_forall fun y => Finset.mem_biUnion.mpr ⟨⟨(y 0).val, (y 0).isLt⟩, Finset.mem_univ _, (mem_rowSet _ y).mpr rfl⟩

theorem dealt_out (d : Dev nD) (f : Buf (Elt F) (oLoc d)) :
    (oLoc d ↦{fullShare} f : sProp 𝕄) = bigSep Finset.univ fun w : Fin 32 => oPt d w f := by
  rw [← pointsTo_biUnion Finset.univ (ℓ := oLoc d) rowSet rows_disjoint, rows_cover]

theorem dealt_in (d : Dev nD) (f : Buf (Elt F) (xLoc d)) :
    (xLoc d ↦{fullShare} f : sProp 𝕄) = bigSep Finset.univ fun w : Fin 32 => xLoc d ↦{leaf 5 fullShare w} f :=
  pointsTo_leaves Finset.univ f 5 fullShare

theorem dealt (d : Dev nD) (f : Buf (Elt F) (oLoc d)) :
    iprop((xLoc d ↦{fullShare} flat m d) ∗ oLoc d ↦{fullShare} f)
      = (bigSep Finset.univ fun c => bigSep Finset.univ fun i => iprop(xPt m d (imageK (F := F) c i) ∗ oPt d (imageK (F := F) c i) f) : sProp 𝕄) := by
  rw [← deal (fun w => iprop(xPt m d w ∗ oPt d w f)), bigSep_sep', ← dealt_out]
  rw [← dealt_in]

/-! ## The main program -/

theorem nothing {I : Type} (s : Finset I) : (bigSep s fun _ => iprop(emp)) = (iprop(emp) : sProp 𝕄) := bigSep_emp_const s

def u₀ : UU := (initOf (K (F := F)).hsCells (K (F := F)).hsToks, 1)

theorem start_state : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]
  · iexact HH
  isplitr
  · rw [nothing]; iempintro
  rw [show (bigSep Finset.univ fun thr : Thread nD τ => bigSep Finset.univ fun q : Fin 1 => (P (F := F) m).x q thr)
      = bigSep Finset.univ fun _ => iprop(emp) from bigSep_congr fun _ _ => bigSep_univ_of_subsingleton (0 : Fin 1), nothing]
  iempintro

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)

abbrev flattenOp : HloOp τ sig (Elt F) :=
  StableHlo.reshape main_arg0 main_v0 (rfl : (.f32 : EltTy) = .f32) shapeCasts_S32x768x32x32_S32x768x1024
abbrev unflattenOp : HloOp τ sig (Elt F) :=
  StableHlo.reshape main_v1 main_v2 (rfl : (.f32 : EltTy) = .f32) shapeCasts_S32x768x1024_S32x768x32x32

/-- The four arrays of the main program. -/
abbrev S4 : Finset (DevRef τ sig) := {a', x', o', r'}

theorem held_four (d : Dev nD) (W : Valuation τ sig (Elt F)) :
    (held (T d) S4 W : sProp 𝕄)
      = iprop((aLoc d ↦{fullShare} W a') ∗ (xLoc d ↦{fullShare} W x') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

theorem unscoped_four (d : Dev nD) (W : (b : Ref sig .tc) → Buf (Elt F) ((d.tc : Thread nD τ).loc b)) :
    (unscopedBufs d W : sProp 𝕄)
      = iprop((aLoc d ↦{fullShare} W main_arg0) ∗ (xLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- What the four arrays hold at the start, after the first reshape, after the call and at the end. -/
def V0 (d : Dev nD) : Valuation τ sig (Elt F) := fun b => m (d, b)
def V1 (d : Dev nD) : Valuation τ sig (Elt F) := (flattenOp (F := F)).result (V0 m d)
def V2 (d : Dev nD) : Valuation τ sig (Elt F) := Function.update (V1 m d) o' (kept (flat m d))
def V3 (d : Dev nD) : Valuation τ sig (Elt F) := (unflattenOp (F := F)).result (V2 m d)

theorem V1_a (d : Dev nD) : V1 m d a' = m (aLoc d) := StableHlo.reshape_result_ne main_arg0 main_v0 _ _ _ _ (V0 m d) (by decide)
theorem V1_o (d : Dev nD) : V1 m d o' = m (oLoc d) := StableHlo.reshape_result_ne main_arg0 main_v0 _ _ _ _ (V0 m d) (by decide)
theorem V1_x (d : Dev nD) : V1 m d x' = flat m d := StableHlo.reshape_result main_arg0 main_v0 _ _ _ _ (V0 m d)
theorem V2_a (d : Dev nD) : V2 m d a' = m (aLoc d) := (Function.update_of_ne (show a' ≠ o' by decide) _ _).trans (V1_a m d)
theorem V2_x (d : Dev nD) : V2 m d x' = flat m d := (Function.update_of_ne (show x' ≠ o' by decide) _ _).trans (V1_x m d)
theorem V2_o (d : Dev nD) : V2 m d o' = kept (flat m d) := Function.update_self _ _ _
theorem V2_r (d : Dev nD) : V2 m d r' = V1 m d r' := Function.update_of_ne (show r' ≠ o' by decide) _ _
theorem V3_a (d : Dev nD) : V3 m d a' = m (aLoc d) :=
  (StableHlo.reshape_result_ne main_v1 main_v2 _ _ _ _ (V2 m d) (by decide)).trans (V2_a m d)
theorem V3_r (d : Dev nD) : V3 m d r' = result m d :=
  (StableHlo.reshape_result main_v1 main_v2 _ _ _ _ (V2 m d)).trans
    (congrArg (fun f => shapeCast S32x768x32x32 f shapeCasts_S32x768x1024_S32x768x32x32) (V2_o m d))

theorem unscoped_held (d : Dev nD) : (unscopedBufs d (fun b => m ((SparseCore.T d).loc b)) : sProp 𝕄) = held (T d) S4 (V0 m d) := by
  rw [unscoped_four, held_four]; rfl

theorem call_takes (d : Dev nD) : (bigSep Finset.univ fun c : Fin ((K (F := F)).nCore 0) => (P m).st 0 d c)
    = iprop((xLoc d ↦{fullShare} flat m d) ∗ oLoc d ↦{fullShare} m (oLoc d)) := (dealt m d (m (oLoc d))).symm
theorem call_gives (d : Dev nD) : (bigSep Finset.univ fun c : Fin ((K (F := F)).nCore 0) => (P m).dn 0 d c)
    = iprop((xLoc d ↦{fullShare} flat m d) ∗ oLoc d ↦{fullShare} kept (flat m d)) := (dealt m d (kept (flat m d))).symm

/-- What the main program leaves: its argument as it was, and its result. -/
abbrev FIN (d : Dev nD) : sProp 𝕄 := iprop((aLoc d ↦{fullShare} m (aLoc d)) ∗ rLoc d ↦{fullShare} result m d)

theorem main_ends (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := flattenOp) (S := S4) (show ({a', x'} : Finset (DevRef τ sig)) ⊆ S4 by decide)
    (V := V0 m d)) $$ [Hb Hheld]
  · isplitl [Hb] <;> iassumption
  iintro ⟨Hb, Hheld⟩
  ihave Hh := (Entails.of_eq (show (held (T d) S4 ((flattenOp (F := F)).result (V0 m d)) : sProp 𝕄)
      = iprop((aLoc d ↦{fullShare} m (aLoc d)) ∗ (xLoc d ↦{fullShare} flat m d) ∗ (oLoc d ↦{fullShare} m (oLoc d)) ∗ rLoc d ↦{fullShare} V1 m d r') by
    rw [show (flattenOp (F := F)).result (V0 m d) = V1 m d from rfl, held_four, V1_a, V1_x, V1_o])) $$ Hheld
  icases Hh with ⟨Ha, Hx, Ho, Hr⟩
  rw [wp_ret]
  imodintro
  iapply ((K (F := F)).wp_run (D (F := F)) 𝒱 (EH := EH) (P := P m) κ d 0) $$ [Hst Ha Hx Ho Hr Hb Hts]
  isplitr
  · iexact Hctx
  isplitl [Hst]
  · iexact Hst
  isplitl [Hx Ho]
  · rw [call_takes]
    isplitl [Hx] <;> iassumption
  iintro ⟨Hst, Hdn⟩
  ihave Hdn' := (Entails.of_eq (call_gives m d)) $$ Hdn
  icases Hdn' with ⟨Hx, Ho⟩
  iapply (wp_hlo_within 𝒱 (SparseCore.T d) none Set.univ (op := unflattenOp) (S := S4) (show ({o', r'} : Finset (DevRef τ sig)) ⊆ S4 by decide)
    (V := V2 m d)) $$ [Hb Ha Hx Ho Hr]
  · isplitl [Hb]
    · iexact Hb
    rw [held_four, V2_a, V2_x, V2_o, V2_r]
    isplitl [Ha]
    · iexact Ha
    isplitl [Hx]
    · iexact Hx
    isplitl [Ho]
    · iexact Ho
    iexact Hr
  iintro ⟨Hb, Hheld⟩
  ihave Hh := (Entails.of_eq (show (held (T d) S4 ((unflattenOp (F := F)).result (V2 m d)) : sProp 𝕄)
      = iprop((aLoc d ↦{fullShare} m (aLoc d)) ∗ (xLoc d ↦{fullShare} V3 m d x') ∗ (oLoc d ↦{fullShare} V3 m d o') ∗ rLoc d ↦{fullShare} result m d) by
    rw [show (unflattenOp (F := F)).result (V2 m d) = V3 m d from rfl, held_four, V3_a, V3_r])) $$ Hheld
  icases Hh with ⟨Ha, -, -, Hr⟩
  rw [wp_ret]
  imodintro
  imodintro
  isplitl [Hst]
  · iexact Hst
  isplitl [Ha Hr]
  · isplitl [Ha] <;> iassumption
  isplitl [Hb] <;> iassumption

def Left (d : Dev nD) (s' : Phys nD τ sig (Elt F)) : Prop := s'.mem.mem (aLoc d) = m (aLoc d) ∧ s'.mem.mem (rLoc d) = result m d

set_option maxRecDepth 16384 in
theorem left_of_fin (d : Dev nD) (s' : Phys nD τ sig (Elt F)) : iprop(FIN m d ∗ SI s') ⊢ (⌜Left m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := result m d)) $$ [HSI Hr]
  · isplitl [HSI] <;> iassumption
  icases H with %h2
  ipureintro
  exact ⟨funext fun i => h1 i (Finset.mem_univ i), funext fun i => h2 i (Finset.mem_univ i)⟩

/-! ## The ending -/

def Ends : PUnit × MemSt nD τ sig (Elt F) → Prop := fun r =>
  (∀ c : Dev nD, r.2.mem (aLoc c) = m (aLoc c) ∧ r.2.mem (rLoc c) = result m c) ∧ r.2.sem = fun _ => 0

/-- Every execution ends with the argument unchanged, the result as `result` says and every counter at zero. -/
theorem ends [∀ e, Nonempty (Elt F e)] :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) call_facts v₀
    (fun q hq => match q with | 0 => nomatch hq)
    (fun q _ => match q with | 0 => subcore_obl m call_facts)
    (fun q _ => match q with | 0 => SparseCore.Cfg.VecSplit.of_plain (vec_split m))
    m ρ main (fun _ => iprop(emp)) (FIN m) (u₀ (F := F)) (sep_elim_left.trans (start_state m)) (main_ends m ρ) (Left m) (left_of_fin m) (Ends m)
    (fun _ h hz => ⟨h, hz⟩)

end Cert.Proof.TileKernelIdeal

end
-- ==== Proof.Rank.lean ====
/-
  Keeping the eight greatest of a row of numbers, two ways: those that fewer than eight exceed, and those at the first eight
  places of a descending arrangement. They keep the same values when the eighth exceeds the ninth, or when what is put in the
  place of the rest is the ninth itself.
-/
module

public import Mathlib.Data.Fintype.Card
public import Mathlib.Data.Fintype.EquivFin
public import Mathlib.Order.Interval.Finset.Fin
public import Mathlib.Algebra.BigOperators.Fin
public import proofs.«01_k».proof.Proof.Net

@[expose] public section

namespace Cert.Proof.Rank

open Cert.Proof.Net (above)

variable {α : Type} [LinearOrder α] {n : ℕ}

/-- How many entries of a row exceed a level. -/
def over (x : Fin n → α) (θ : α) : ℕ := (Finset.univ.filter fun c => θ < x c).card

/-- An arrangement of a row's places in descending order of their entries. -/
structure Descending (x : Fin n → α) (σ : Fin n → Fin n) : Prop where
  onto : Function.Surjective σ
  inj : Function.Injective σ
  down : ∀ i j, i ≤ j → x (σ j) ≤ x (σ i)

/-- No more entries exceed the one at place `k` than stand before it. -/
theorem over_le {x : Fin n → α} {σ : Fin n → Fin n} (h : Descending x σ) (k : Fin n) : over x (x (σ k)) ≤ k.val := by
  have hs : (Finset.univ.filter fun c => x (σ k) < x c) ⊆ (Finset.univ.filter fun i : Fin n => i.val < k.val).image σ := by
    intro c hc
    obtain ⟨j, rfl⟩ := h.onto c
    have hj : x (σ k) < x (σ j) := (Finset.mem_filter.mp hc).2
    refine Finset.mem_image_of_mem σ (Finset.mem_filter.mpr ⟨Finset.mem_univ _, ?_⟩)
    by_contra hkj
    exact absurd (h.down k j (Fin.le_def.mpr (Nat.le_of_not_lt hkj))) (not_le.mpr hj)
  refine (Finset.card_le_card hs).trans (Finset.card_image_le.trans ?_)
  have hk : (Finset.univ.filter fun i : Fin n => i.val < k.val) = Finset.Iio k := by
    ext i; simp
  rw [hk, Fin.card_Iio]

/-- If the entry at place `k` exceeds a level, more than `k` entries do. -/
theorem lt_over {x : Fin n → α} {σ : Fin n → Fin n} (h : Descending x σ) (k : Fin n) (θ : α) (hθ : θ < x (σ k)) : k.val < over x θ := by
  have hs : (Finset.Iic k).image σ ⊆ Finset.univ.filter fun c => θ < x c := by
    intro c hc
    obtain ⟨i, hi, rfl⟩ := Finset.mem_image.mp hc
    exact Finset.mem_filter.mpr ⟨Finset.mem_univ _, hθ.trans_le (h.down i k (Finset.mem_Iic.mp hi))⟩
  have hc := Finset.card_le_card hs
  rw [Finset.card_image_of_injective _ h.inj, Fin.card_Iic] at hc
  exact hc

/-- The two ways of keeping eight agree at every entry. -/
theorem keep_eq {x : Fin n → α} {σ : Fin n → Fin n} (h : Descending x σ) (z : α) (h7 : 7 < n) (h8 : 8 < n)
    (cut : x (σ ⟨8, h8⟩) < x (σ ⟨7, h7⟩) ∨ x (σ ⟨8, h8⟩) = z) (c : Fin n) [Decidable (∃ k : Fin n, k.val < 8 ∧ σ k = c)] :
    (if over x (x c) < 8 then x c else z) = if ∃ k : Fin n, k.val < 8 ∧ σ k = c then x c else z := by
  by_cases hk : ∃ k : Fin n, k.val < 8 ∧ σ k = c
  · obtain ⟨k, hk8, rfl⟩ := hk
    rw [if_pos ((over_le h k).trans_lt hk8), if_pos ⟨k, hk8, rfl⟩]
  · rw [if_neg hk]
    obtain ⟨k, rfl⟩ := h.onto c
    have hk8 : 8 ≤ k.val := by by_contra hlt; exact hk ⟨k, by omega, rfl⟩
    have hle : x (σ k) ≤ x (σ ⟨8, h8⟩) := h.down _ _ (Fin.le_def.mpr hk8)
    rcases cut with cut | cut
    · have := lt_over h ⟨7, h7⟩ (x (σ k)) (hle.trans_lt cut)
      rw [if_neg (by simp only at this; omega)]
    · split_ifs with hlt
      · rcases hle.lt_or_eq with hlt' | heq
        · have := lt_over h ⟨8, h8⟩ (x (σ k)) hlt'
          simp only at this; omega
        · rw [heq, cut]
      · rfl

/-- The count along a sequence that begins with a row is the row's. -/
theorem above_eq_over (x : Fin n → α) (y : ℕ → α) (hy : ∀ c : Fin n, y c.val = x c) (θ : α) : above y θ n = over x θ := by
  unfold above over
  rw [Finset.sum_range, Finset.card_filter]
  exact Finset.sum_congr rfl fun c _ => by rw [hy c]

end Cert.Proof.Rank

end
-- ==== Proof.KernelValue.lean ====
/-
  What the kernel returns over the extended reals: at every position, of its 768 channels those whose entries fewer than eight
  entries exceed, and zero elsewhere.
-/
module

public import proofs.«01_k».proof.Proof.LaunchKernelIdeal
public import proofs.«01_k».proof.Proof.Rank
public import Idealize.ShloMosaic.PureOps.Ideal
public import Idealize.ShloMosaic.Lib.IdealHost

@[expose] public section

noncomputable section

namespace Cert.Proof.KernelValue

open Cert.KernelIdeal Cert.KernelIdeal.Gen
open Idealize.ShloMosaic
open Cert.Proof.TileKernelIdeal
open Cert.Proof.Net (Oct batch running step above map_step lt_eighth)
open Cert.Proof.Rank (over above_eq_over)

/-- A map that carries the exchanges carries every stage of the running eight. -/
theorem map_running {α β : Type} (f : α → β) (hi lo : α → α → α) (hi' lo' : β → β → β)
    (h1 : ∀ a b, f (hi a b) = hi' (f a) (f b)) (h2 : ∀ a b, f (lo a b) = lo' (f a) (f b)) (b : α) (x : ℕ → α) :
    ∀ k, (running hi lo b x k).map f = running hi' lo' (f b) (fun r => f (x r)) k
  | 0 => rfl
  | k + 1 => by
    rw [running, map_step f hi lo hi' lo' h1 h2, map_running f hi lo hi' lo' h1 h2 b x k]
    rfl

theorem start_bot (i : S16.Idx) : k0_pay1 (F := Ideal) i = (⊥ : EReal) := by
  show Ideal.ofBits .f32 0xFF800000#32 = ⊥
  simp [Ideal.ofBits, Ideal.ieee]

theorem rest_zero (i : S16.Idx) : k0_pay6 (F := Ideal) i = (0 : EReal) := by
  show Ideal.ofBits .f32 0x00000000#32 = 0
  simp [Ideal.ofBits, Ideal.ieee]

/-- Lane `i` of the eighth greatest exceeds a level exactly if eight of the lane's entries do. -/
theorem eighth_lane (A : S768x64.Idx → Ideal .f32) (g : ℕ) (i : S16.Idx) (θ : EReal) :
    θ < ((eight (F := Ideal) A g 96).a7 i : EReal) ↔ 8 ≤ above (fun r => (row (F := Ideal) A g r i : EReal)) θ 768 := by
  have h := congrArg Oct.a7 (map_running (fun v : FVec Ideal S16 .f32 => (v i : EReal)) maximumf minimumf max min (fun _ _ => rfl) (fun _ _ => rfl)
    (k0_pay1 (F := Ideal)) (row (F := Ideal) A g) 96)
  have h' : ((eight (F := Ideal) A g 96).a7 i : EReal) = (running max min (⊥ : EReal) (fun r => (row (F := Ideal) A g r i : EReal)) 96).a7 := by
    rw [← start_bot i]; exact h
  rw [h']
  exact lt_eighth (⊥ : EReal) (fun _ => not_lt_bot) _ θ 96

/-- A lane of a masked row. -/
theorem maskRow_lane (A : S768x64.Idx → Ideal .f32) (g r : ℕ) (i : S16.Idx) :
    (maskRow (F := Ideal) A g r i : EReal)
      = if above (fun r => (row (F := Ideal) A g r i : EReal)) (row (F := Ideal) A g r i) 768 < 8 then row (F := Ideal) A g r i else 0 := by
  show Scalar.select (BitVec.ofBool (decide (((eight (F := Ideal) A g 96).a7 i : EReal) ≤ row (F := Ideal) A g r i)))
    (row (F := Ideal) A g r i) (k0_pay6 (F := Ideal) i) = _
  rw [rest_zero]
  by_cases h : above (fun r => (row (F := Ideal) A g r i : EReal)) (row (F := Ideal) A g r i) 768 < 8
  · rw [if_pos h, decide_eq_true (not_lt.mp fun hlt => absurd ((eighth_lane A g i _).mp hlt) (not_le.mpr h))]
    rfl
  · rw [if_neg h, decide_eq_false (not_le.mpr ((eighth_lane A g i _).mpr (not_lt.mp h)))]
    rfl

/-- The channels of image `b` at position `p`. -/
def channels (X : S32x768x1024.Idx → Ideal .f32) (b : Fin 32) (p : Fin 1024) : Fin 768 → EReal := fun c => X (ix3 b c p)

theorem row_chunk (X : S32x768x1024.Idx → Ideal .f32) (b : Fin 32) (p : Fin 1024) (c : Fin 768) (i : S16.Idx)
    (hi : (i 0).val = p.val % 64 % 16) :
    row (F := Ideal) (chunk X b (p.val / 64)) (p.val % 64 / 16) c.val i = channels X b p c := by
  have hp := p.isLt
  have h : 16 * (p.val % 64 / 16) + (i 0).val = p.val % 64 := by omega
  unfold row
  rw [dif_pos ⟨c.isLt, by omega⟩]
  unfold chunk
  refine (dif_pos (show 64 * (p.val / 64) + (16 * (p.val % 64 / 16) + (i 0).val) < 1024 by omega)).trans ?_
  unfold channels
  congr 1
  funext a
  match a with
  | 0 => rfl
  | 1 => rfl
  | 2 => exact Fin.ext (by show 64 * (p.val / 64) + (16 * (p.val % 64 / 16) + (i 0).val) = p.val; omega)

/-- What the call leaves at one channel of one position. -/
theorem kept_at (X : S32x768x1024.Idx → Ideal .f32) (b : Fin 32) (c : Fin 768) (p : Fin 1024) :
    (kept X (ix3 b c p) : EReal) = if over (channels X b p) (channels X b p c) < 8 then channels X b p c else 0 := by
  have hr := row_chunk X b p
  show (maskRow (F := Ideal) (chunk X b (p.val / 64)) (p.val % 64 / 16) c.val (ix1 ⟨p.val % 64 % 16, _⟩) : EReal) = _
  rw [maskRow_lane, hr c _ rfl, above_eq_over (channels X b p) _ (fun c => hr c _ rfl)]

/-- The channels at position (h, w) of image `b`. -/
def column (A : S32x768x32x32.Idx → Ideal .f32) (b h w : Fin 32) : Fin 768 → EReal := fun c => A (ix4 b c h w)

theorem spot_lt (h w : Fin 32) : 32 * h.val + w.val < 1024 := by omega

theorem spot (b : Fin 32) (c : Fin 768) (h w : Fin 32) :
    (S32x768x1024.rowMajor (ix3 b c ⟨32 * h.val + w.val, spot_lt h w⟩)).val = (S32x768x32x32.rowMajor (ix4 b c h w)).val := by
  rw [Shape.rowMajor_val_three, Shape.rowMajor_val_four]
  simp [ix3, ix4]
  omega

variable (m : (ℓ : Loc nD τ sig) → Buf (Elt Ideal) ℓ) (d : Dev nD)

theorem channels_flat (b h w : Fin 32) :
    channels (flat m d) b ⟨32 * h.val + w.val, spot_lt h w⟩ = column (m (aLoc d)) b h w := by
  funext c
  exact shapeCast_apply (m (aLoc d) : S32x768x32x32.Idx → Ideal .f32) shapeCasts_S32x768x32x32_S32x768x1024 _ (ix4 b c h w) (spot b c h w).symm

/-- What the kernel returns at one channel of one position. -/
theorem result_at (b : Fin 32) (c : Fin 768) (h w : Fin 32) :
    (result m d (ix4 b c h w) : EReal)
      = if over (column (m (aLoc d)) b h w) (column (m (aLoc d)) b h w c) < 8 then column (m (aLoc d)) b h w c else 0 := by
  rw [show result m d (ix4 b c h w) = kept (flat m d) (ix3 b c ⟨32 * h.val + w.val, spot_lt h w⟩) from
    shapeCast_apply (kept (flat m d)) shapeCasts_S32x768x1024_S32x768x32x32 _ _ (spot b c h w)]
  rw [kept_at, channels_flat]

end Cert.Proof.KernelValue

end
-- ==== Proof.Lands.lean ====
/-
  Where the entries the reference picks come from and where they go: the addresses of its gather and of its scatter, and what a
  scatter leaves when the entries that reach a place agree.
-/
module

public import proofs.«01_k».proof.Proof.Gen.ReferenceIdeal
public import Idealize.ShloMosaic.Lib.Routing.OpsPair
public import Idealize.ShloMosaic.Lib.Pointwise.Index

@[expose] public section

noncomputable section

namespace Cert.Proof.Lands

open Cert.ReferenceIdeal Cert.ReferenceIdeal.Gen
open Idealize.ShloMosaic

/-- The dimension numbers of the reference's scatter and of its gather, by shorter names. -/
abbrev put := scatter_S32x32x32x768_S32x32x32x8x4_S32x32x32x8_n_0123_0123_4
abbrev pick := gather_S32x32x32x768_S32x32x32x8x1_S32x32x32x8_n_3_012_012_3_4_1111

/-- When every entry that reaches a place carries one value, the scatter leaves that value there, and what was there before
    where none reaches. -/
theorem put_agreeing {α : Type} {s si u : Shape} {w : ℕ} (d : ScatterDims s si u) (z : s.Idx → α) (idx : IVec si w) (upd : u.Idx → α)
    (v : α) (i : s.Idx) (hv : ∀ j, d.resultIdx? j idx = some i → upd j = v) [Decidable (∃ j, d.resultIdx? j idx = some i)] :
    Host.scatter d (fun _ b => b) z idx upd i = if ∃ j, d.resultIdx? j idx = some i then v else z i := by
  have fold : ∀ (l : List (Fin u.numel)) (a : α),
      (l.foldl (fun a n => if d.resultIdx? (u.rowMajor.symm n) idx = some i then upd (u.rowMajor.symm n) else a) a = v
          ∧ ((∃ n ∈ l, d.resultIdx? (u.rowMajor.symm n) idx = some i) ∨ a = v))
        ∨ (l.foldl (fun a n => if d.resultIdx? (u.rowMajor.symm n) idx = some i then upd (u.rowMajor.symm n) else a) a = a
          ∧ ∀ n ∈ l, d.resultIdx? (u.rowMajor.symm n) idx ≠ some i) := by
    intro l
    induction l with
    | nil => exact fun a => Or.inr ⟨rfl, fun _ hn => nomatch hn⟩
    | cons n l ih =>
      intro a
      rw [List.foldl_cons]
      by_cases hn : d.resultIdx? (u.rowMajor.symm n) idx = some i
      · rw [if_pos hn, hv _ hn]
        refine Or.inl ⟨?_, Or.inl ⟨n, List.mem_cons_self .., hn⟩⟩
        rcases ih v with h | h <;> exact h.1
      · rw [if_neg hn]
        rcases ih a with ⟨h, ⟨n', hm, hn'⟩ | h'⟩ | ⟨h, h'⟩
        · exact Or.inl ⟨h, Or.inl ⟨n', List.mem_cons_of_mem _ hm, hn'⟩⟩
        · exact Or.inl ⟨h, Or.inr h'⟩
        · refine Or.inr ⟨h, fun n' hm => ?_⟩
          rcases List.mem_cons.1 hm with rfl | hm
          · exact hn
          · exact h' n' hm
  rw [Routing.scatter_at]
  by_cases hj : ∃ j, d.resultIdx? j idx = some i
  · rw [if_pos hj]
    obtain ⟨j, hj⟩ := hj
    rcases fold (List.finRange u.numel) (z i) with h | h
    · exact h.1
    · exact absurd (by rw [Equiv.symm_apply_apply]; exact hj) (h.2 (u.rowMajor j) (List.mem_finRange _))
  · rw [if_neg hj]
    rcases fold (List.finRange u.numel) (z i) with ⟨h, ⟨n, _, hn⟩ | h'⟩ | h
    · exact absurd ⟨_, hn⟩ hj
    · exact h.trans h'.symm
    · exact h.1

theorem put_start (b h w : Fin 32) (k : Fin 8) (idx : IVec S32x32x32x8x4 32) (a : Fin 4) :
    put.start (ix4 b h w k) idx a = (idx (ix5 b h w k a)).toInt := by
  unfold ScatterDims.start
  rw [dif_pos (by fin_cases a <;> decide)]
  refine congrArg (fun i => (idx i).toInt) ?_
  funext e
  fin_cases a <;> fin_cases e <;> rfl

theorem put_window (b h w : Fin 32) (k : Fin 8) (a : Fin 4) : put.window (ix4 b h w k) a = 0 := by
  unfold ScatterDims.window
  rw [dif_neg (by fin_cases a <;> decide)]

/-- Where an entry goes: to the place its index words name. -/
theorem put_lands (b h w : Fin 32) (k : Fin 8) (idx : IVec S32x32x32x8x4 32) (i : S32x32x32x768.Idx) :
    put.resultIdx? (ix4 b h w k) idx = some i ↔ ∀ a : Fin 4, (idx (ix5 b h w k a)).toInt = ((i a).val : Int) := by
  rw [Routing.resultIdx?_eq_some]
  refine forall_congr' fun a => ?_
  rw [put_start, put_window]
  simp

theorem pick_at (b h w : Fin 32) (k : Fin 8) (idx : IVec S32x32x32x8x1 32) (c : Fin 768)
    (hc : (idx (ix5 b h w k 0)).toInt = (c.val : Int)) : pick.operandIdx (ix4 b h w k) idx = ix4 b h w c := by
  have h0 : ∀ (a : Fin 4), a ≠ 3 → pick.start (ix4 b h w k) idx a = 0 := by
    intro a ha
    unfold GatherDims.start
    rw [dif_neg (by fin_cases a <;> first | exact absurd rfl ha | decide)]
  have h3 : pick.start (ix4 b h w k) idx (3 : Fin 4) = c.val := by
    unfold GatherDims.start
    rw [dif_pos (by decide)]
    have e : pick.siIdx (ix4 b h w k) ⟨pick.startIndexMap.idxOf (3 : Fin 4), List.idxOf_lt_length_iff.2 (by decide)⟩ = ix5 b h w k 0 := by
      funext e
      fin_cases e <;> rfl
    refine (congrArg (fun i => min (idx i).toInt.toNat (768 - 1)) e).trans ?_
    show min (idx (ix5 b h w k 0)).toInt.toNat (768 - 1) = c.val
    rw [hc]
    have := c.isLt
    omega
  have hoff : ∀ (a : Fin 4), pick.offCoord (ix4 b h w k) a = 0 := by
    intro a
    exact pick.offCoord_eq_zero _ _ (by fin_cases a <;> decide)
  funext a
  apply Fin.ext
  show pick.start (ix4 b h w k) idx a + pick.batchCoord (ix4 b h w k) a + pick.offCoord (ix4 b h w k) a = _
  rw [hoff]
  match a with
  | ⟨0, _⟩ =>
    show pick.start (ix4 b h w k) idx 0 + _ + 0 = _
    rw [h0 0 (by decide)]; simp; rfl
  | ⟨1, _⟩ =>
    show pick.start (ix4 b h w k) idx 1 + _ + 0 = _
    rw [h0 1 (by decide)]; simp; rfl
  | ⟨2, _⟩ =>
    show pick.start (ix4 b h w k) idx 2 + _ + 0 = _
    rw [h0 2 (by decide)]; simp; rfl
  | ⟨3, _⟩ =>
    show pick.start (ix4 b h w k) idx 3 + _ + 0 = c.val
    rw [h3]; simp; rfl

end Cert.Proof.Lands

end
-- ==== Proof.Words.lean ====
/-
  The words the reference writes its places with: a word that is not negative is left as it is, every picked place is in range,
  and the address of an entry is its position and its place.
-/
module

public import proofs.«01_k».proof.Proof.Lands
public import Idealize.ShloMosaic.PureOps.Ideal
public import Idealize.ShloMosaic.Lib.IdealHost
public import Idealize.ShloMosaic.Lib.ReduceAll
public import Idealize.ShloMosaic.Lib.Pipeline.Value

@[expose] public section

noncomputable section

namespace Cert.Proof.Words

open Cert.ReferenceIdeal Cert.ReferenceIdeal.Gen
open Idealize.ShloMosaic

theorem toNat_small {n : ℕ} (h : n < 2 ^ 31) : (BitVec.ofNat 32 n).toNat = n := by
  rw [BitVec.toNat_ofNat]
  exact Nat.mod_eq_of_lt (by omega)

theorem toInt_small {n : ℕ} (h : n < 2 ^ 31) : (BitVec.ofNat 32 n).toInt = (n : Int) := by
  rw [BitVec.toInt_eq_toNat_of_lt (by rw [toNat_small h]; omega), toNat_small h]

theorem wrap_small {n : ℕ} (h : n < 2 ^ 31) (a : BitVec 32) :
    Scalar.select (IntOp.cmpi .slt (BitVec.ofNat 32 n) 0#32) a (BitVec.ofNat 32 n) = BitVec.ofNat 32 n :=
  Routing.wrap_of_lt _ _ (by rw [toNat_small h]; exact h)

theorem sge_small {n : ℕ} (h : n < 2 ^ 31) : IntOp.cmpi .sge (BitVec.ofNat 32 n) 0#32 = 1#1 := by
  show BitVec.ofBool ((0#32).sle (BitVec.ofNat 32 n)) = 1#1
  have : (0#32).sle (BitVec.ofNat 32 n) = true := by
    rw [BitVec.sle, toInt_small h]
    simp
  rw [this]
  rfl

theorem sle_small {n : ℕ} (h : n < 768) : IntOp.cmpi .sle (BitVec.ofNat 32 n) 767#32 = 1#1 := by
  show BitVec.ofBool ((BitVec.ofNat 32 n).sle 767#32) = 1#1
  have : (BitVec.ofNat 32 n).sle 767#32 = true := by
    rw [BitVec.sle, toInt_small (by omega)]
    simp
    omega
  rw [this]
  rfl

/-- The picked places, with the reference's treatment of negative ones. -/
def wrapped (T : IVec S32x32x32x8 32) : IVec S32x32x32x8 32 :=
  select (cmpi .slt T (broadcastInDim S32x32x32x8 ![] bcast_S_S32x32x32x8 (constantI S_ 32 0#32)))
    (addi T (broadcastInDim S32x32x32x8 ![] bcast_S_S32x32x32x8 (constantI S_ 32 768#32))) T

/-- None of the picked places is negative. -/
theorem wrapped_eq (T : IVec S32x32x32x8 32) (p : S32x32x32x8.Idx → Fin 768) (hT : ∀ j, T j = BitVec.ofNat 32 (p j).val) :
    wrapped T = T := by
  funext j
  show Scalar.select (IntOp.cmpi .slt (T j) 0#32) (T j + 768#32) (T j) = T j
  rw [hT]
  exact wrap_small (by have := (p j).isLt; omega) _

/-- The picked places with an axis of one added. -/
def column (T : IVec S32x32x32x8 32) : IVec S32x32x32x8x1 32 := shapeCast _ T shapeCasts_S32x32x32x8_S32x32x32x8x1

theorem column_at (T : IVec S32x32x32x8 32) (b h w : Fin 32) (k : Fin 8) (o : Fin 1) : column T (ix5 b h w k o) = T (ix4 b h w k) := by
  refine shapeCast_apply _ _ _ _ ?_
  rw [Shape.rowMajor_val_four, Shape.rowMajor_val_five]
  show ((b.val * 32 + h.val) * 32 + w.val) * 8 + k.val = (((b.val * 32 + h.val) * 32 + w.val) * 8 + k.val) * 1 + o.val
  have := o.isLt
  omega

/-- Which of the picked places are in range. -/
def ranged (T : IVec S32x32x32x8 32) : IVec S32x32x32x8 1 :=
  Host.reduce IntOp.andi
    (andi (cmpi .sge (column T) (broadcastInDim S32x32x32x8x1 ![] bcast_S_S32x32x32x8x1 (constantI S_ 32 0#32)))
      (cmpi .sle (column T) (broadcastInDim S32x32x32x8x1 ![0, 1, 2, 3, 4] bcast_S1x1x1x1x1_S32x32x32x8x1_0_1_2_3_4
        (broadcastInDim S1x1x1x1x1 ![4] bcast_S1_S1x1x1x1x1_4 (constantI S1 32 767#32)))))
    (constantI S_ 1 1#1) reducesTo_S32x32x32x8x1_S32x32x32x8_d4 h_S_

/-- All of them are. -/
theorem ranged_one (T : IVec S32x32x32x8 32) (p : S32x32x32x8.Idx → Fin 768) (hT : ∀ j, T j = BitVec.ofNat 32 (p j).val) (j : S32x32x32x8.Idx) :
    ranged T j = 1#1 := by
  refine Host.reduce_andi_one _ _ _ _ j rfl fun i => ?_
  obtain ⟨b, h, w, k, o, rfl⟩ : ∃ b h w k o, i = ix5 (n0 := 32) (n1 := 32) (n2 := 32) (n3 := 8) (n4 := 1) b h w k o := ⟨_, _, _, _, _, (ix5_eta i).symm⟩
  show IntOp.andi (IntOp.cmpi .sge (column T (ix5 b h w k o)) 0#32) (IntOp.cmpi .sle (column T (ix5 b h w k o)) 767#32) = 1#1
  rw [column_at, hT, sge_small (by have := (p (ix4 b h w k)).isLt; omega), sle_small (p (ix4 b h w k)).isLt]
  rfl

/-- The places along one of the first three axes, with the reference's treatment of negative ones. -/
def first : IVec S32x32x32x8x1 32 :=
  broadcastInDim S32x32x32x8x1 ![0, 1, 2, 3] bcast_S32x32x32x8_S32x32x32x8x1_0_1_2_3 (broadcastInDim S32x32x32x8 ![0, 1, 2, 3] bcast_S32x1x1x1_S32x32x32x8_0_1_2_3 (select (cmpi .slt (broadcastInDim S32x1x1x1 ![0] bcast_S32_S32x1x1x1_0 (iotaInDim S32 32 0)) (broadcastInDim S32x1x1x1 ![] bcast_S_S32x1x1x1 (constantI S_ 32 0#32))) (addi (broadcastInDim S32x1x1x1 ![0] bcast_S32_S32x1x1x1_0 (iotaInDim S32 32 0)) (broadcastInDim S32x1x1x1 ![] bcast_S_S32x1x1x1 (constantI S_ 32 32#32))) (broadcastInDim S32x1x1x1 ![0] bcast_S32_S32x1x1x1_0 (iotaInDim S32 32 0))))

def second : IVec S32x32x32x8x1 32 :=
  broadcastInDim S32x32x32x8x1 ![0, 1, 2, 3] bcast_S32x32x32x8_S32x32x32x8x1_0_1_2_3 (broadcastInDim S32x32x32x8 ![0, 1, 2, 3] bcast_S1x32x1x1_S32x32x32x8_0_1_2_3 (select (cmpi .slt (broadcastInDim S1x32x1x1 ![1] bcast_S32_S1x32x1x1_1 (iotaInDim S32 32 0)) (broadcastInDim S1x32x1x1 ![] bcast_S_S1x32x1x1 (constantI S_ 32 0#32))) (addi (broadcastInDim S1x32x1x1 ![1] bcast_S32_S1x32x1x1_1 (iotaInDim S32 32 0)) (broadcastInDim S1x32x1x1 ![] bcast_S_S1x32x1x1 (constantI S_ 32 32#32))) (broadcastInDim S1x32x1x1 ![1] bcast_S32_S1x32x1x1_1 (iotaInDim S32 32 0))))

def third : IVec S32x32x32x8x1 32 :=
  broadcastInDim S32x32x32x8x1 ![0, 1, 2, 3] bcast_S32x32x32x8_S32x32x32x8x1_0_1_2_3 (broadcastInDim S32x32x32x8 ![0, 1, 2, 3] bcast_S1x1x32x1_S32x32x32x8_0_1_2_3 (select (cmpi .slt (broadcastInDim S1x1x32x1 ![2] bcast_S32_S1x1x32x1_2 (iotaInDim S32 32 0)) (broadcastInDim S1x1x32x1 ![] bcast_S_S1x1x32x1 (constantI S_ 32 0#32))) (addi (broadcastInDim S1x1x32x1 ![2] bcast_S32_S1x1x32x1_2 (iotaInDim S32 32 0)) (broadcastInDim S1x1x32x1 ![] bcast_S_S1x1x32x1 (constantI S_ 32 32#32))) (broadcastInDim S1x1x32x1 ![2] bcast_S32_S1x1x32x1_2 (iotaInDim S32 32 0))))

def fourth (T : IVec S32x32x32x8 32) : IVec S32x32x32x8x1 32 :=
  broadcastInDim S32x32x32x8x1 ![0, 1, 2, 3] bcast_S32x32x32x8_S32x32x32x8x1_0_1_2_3 T

theorem first_at (b h w : Fin 32) (k : Fin 8) : first (ix5 b h w k 0) = BitVec.ofNat 32 b.val :=
  wrap_small (n := b.val) (by have := b.isLt; omega) _

theorem second_at (b h w : Fin 32) (k : Fin 8) : second (ix5 b h w k 0) = BitVec.ofNat 32 h.val :=
  wrap_small (n := h.val) (by have := h.isLt; omega) _

theorem third_at (b h w : Fin 32) (k : Fin 8) : third (ix5 b h w k 0) = BitVec.ofNat 32 w.val :=
  wrap_small (n := w.val) (by have := w.isLt; omega) _

theorem fourth_at (T : IVec S32x32x32x8 32) (b h w : Fin 32) (k : Fin 8) : fourth T (ix5 b h w k 0) = T (ix4 b h w k) := by
  refine congrArg T ?_
  funext a
  match a with
  | ⟨0, _⟩ => rfl
  | ⟨1, _⟩ => rfl
  | ⟨2, _⟩ => rfl
  | ⟨3, _⟩ => rfl

/-- The four words of every address, side by side. -/
def address (T : IVec S32x32x32x8 32) : IVec S32x32x32x8x4 32 :=
  concatenate S32x32x32x8x4 4 [⟨S32x32x32x8x1, first⟩, ⟨S32x32x32x8x1, second⟩, ⟨S32x32x32x8x1, third⟩, ⟨S32x32x32x8x1, fourth T⟩]
    concatenates_S32x32x32x8x1_S32x32x32x8x1_S32x32x32x8x1_S32x32x32x8x1_S32x32x32x8x4_d4

theorem address_piece (T : IVec S32x32x32x8 32) (b h w : Fin 32) (k : Fin 8) (q : Fin 4) (x : IVec S32x32x32x8x1 32)
    (hx : [(⟨S32x32x32x8x1, first⟩ : (s : Shape) × (s.Idx → BitVec 32)), ⟨S32x32x32x8x1, second⟩, ⟨S32x32x32x8x1, third⟩, ⟨S32x32x32x8x1, fourth T⟩][q.val] = ⟨S32x32x32x8x1, x⟩) :
    address T (ix5 b h w k q) = x (ix5 b h w k 0) := by
  refine concatenate_apply_piece (t := S32x32x32x8x4) (4 : Fin 5) [⟨S32x32x32x8x1, first⟩, ⟨S32x32x32x8x1, second⟩, ⟨S32x32x32x8x1, third⟩, ⟨S32x32x32x8x1, fourth T⟩]
    concatenates_S32x32x32x8x1_S32x32x32x8x1_S32x32x32x8x1_S32x32x32x8x1_S32x32x32x8x4_d4 (ix5 b h w k q) q.val q.isLt S32x32x32x8x1 x hx
    rfl q.val ?_ (ix5 b h w k 0) ?_ rfl
  · fin_cases q <;> rfl
  · intro a ha
    fin_cases a <;> first | rfl | exact absurd rfl ha

theorem address_at (T : IVec S32x32x32x8 32) (b h w : Fin 32) (k : Fin 8) :
    address T (ix5 b h w k 0) = BitVec.ofNat 32 b.val ∧ address T (ix5 b h w k 1) = BitVec.ofNat 32 h.val
      ∧ address T (ix5 b h w k 2) = BitVec.ofNat 32 w.val ∧ address T (ix5 b h w k 3) = T (ix4 b h w k) :=
  ⟨(address_piece T b h w k 0 first rfl).trans (first_at b h w k), (address_piece T b h w k 1 second rfl).trans (second_at b h w k),
    (address_piece T b h w k 2 third rfl).trans (third_at b h w k), (address_piece T b h w k 3 (fourth T) rfl).trans (fourth_at T b h w k)⟩

end Cert.Proof.Words

end
-- ==== Proof.Places.lean ====
/-
  The first places of a descending sort along the last of four axes: where each comes from, and that they descend.
-/
module

public import proofs.«01_k».proof.Proof.Rank
public import Idealize.ShloMosaic.PureOps.Ideal
public import Idealize.ShloMosaic.Lib.SortFacts
public import Idealize.ShloMosaic.Lib.Pointwise.Index

@[expose] public section

noncomputable section

namespace Cert.Proof.Places

open Idealize.ShloMosaic
open Cert.Proof.Rank (Descending)

/-- Which of two places of a row goes first: the one whose entry is greater. -/
def first (x : Fin 768 → EReal) (k k' : Fin 768) : Bool := Ideal.cmpTotal .gt (x k) (x k') == 1#1

theorem first_iff (x : Fin 768 → EReal) (k k' : Fin 768) : first x k k' = true ↔ x k' < x k := by
  have e : Ideal.cmpTotal .gt (x k) (x k') = BitVec.ofBool (decide (x k' < x k)) := rfl
  unfold first
  rw [e]
  by_cases h : x k' < x k <;> simp [h]

/-- Where the entries of a row stand once it is sorted with the greatest first. -/
def places (x : Fin 768 → EReal) : Fin 768 → Fin 768 := sortedFrom (first x)

theorem descending (x : Fin 768 → EReal) : Descending x (places x) where
  onto := sortedFrom_surjective _
  inj := sortedFrom_injective _
  down i j hij := by
    rcases eq_or_lt_of_le hij with rfl | h
    · exact le_refl _
    · have hn : first x (places x j) (places x i) = false :=
        sortedFrom_noInversion (first x) (first x)
          (fun a b hab => by
            rw [first_iff] at hab
            rw [Bool.eq_false_iff, Ne, first_iff]
            exact not_lt.mpr (le_of_lt hab))
          (fun _ _ hab => hab)
          (fun a b c hab hbc => by
            rw [Bool.eq_false_iff, Ne, first_iff] at *
            exact (not_lt.mpr ((not_lt.mp hab).trans (not_lt.mp hbc)))) i j h
      rw [Bool.eq_false_iff, Ne, first_iff] at hn
      exact not_lt.mp hn

/-- The row at a position of four axes, along the last. -/
def row (X : (⟨4, ![32, 32, 32, 768]⟩ : Shape).Idx → Ideal .f32) (b h w : Fin 32) : Fin 768 → EReal := fun c => X (ix4 b h w c)

theorem along_ix4 (b h w : Fin 32) (c k : Fin 768) :
    Shape.Idx.along (s := ⟨4, ![32, 32, 32, 768]⟩) (ix4 b h w c) 3 k = ix4 b h w k := by
  funext a
  match a with
  | ⟨0, _⟩ => rfl
  | ⟨1, _⟩ => rfl
  | ⟨2, _⟩ => rfl
  | ⟨3, _⟩ => rfl

variable (X : (⟨4, ![32, 32, 32, 768]⟩ : Shape).Idx → Ideal .f32)

/-- The order of the sort along the row of a position is the order of the entries of that row. -/
theorem order_at (Y : (⟨4, ![32, 32, 32, 768]⟩ : Shape).Idx → BitVec 32) (b i w : Fin 32) (k : Fin 768) :
    (fun k1 k2 : Fin 768 =>
        (fun (l r : Ideal .f32 × BitVec 32) => FloatOps.cmpfTotal (F := Ideal) .gt l.1 r.1)
          (X (Shape.Idx.along (s := ⟨4, ![32, 32, 32, 768]⟩) (ix4 b i w k) 3 k1), Y (Shape.Idx.along (s := ⟨4, ![32, 32, 32, 768]⟩) (ix4 b i w k) 3 k1))
          (X (Shape.Idx.along (s := ⟨4, ![32, 32, 32, 768]⟩) (ix4 b i w k) 3 k2), Y (Shape.Idx.along (s := ⟨4, ![32, 32, 32, 768]⟩) (ix4 b i w k) 3 k2)) == 1#1)
      = first (row X b i w) := by
  funext k1 k2
  rw [along_ix4, along_ix4]
  rfl

/-- The sort of two arrays by the first: each entry of a row comes from the place of its rank. -/
theorem sort_at (Y : (⟨4, ![32, 32, 32, 768]⟩ : Shape).Idx → BitVec 32) (b i w : Fin 32) (k : Fin 768) :
    (Host.sort2 ⟨4, ![32, 32, 32, 768]⟩ 3 (fun (l r : Ideal .f32 × BitVec 32) => FloatOps.cmpfTotal (F := Ideal) .gt l.1 r.1) X Y).1
        (ix4 b i w k) = X (ix4 b i w (places (row X b i w) k))
      ∧ (Host.sort2 ⟨4, ![32, 32, 32, 768]⟩ 3 (fun (l r : Ideal .f32 × BitVec 32) => FloatOps.cmpfTotal (F := Ideal) .gt l.1 r.1) X Y).2
        (ix4 b i w k) = Y (ix4 b i w (places (row X b i w) k)) := by
  have e := congrArg (fun f : Fin 768 → Fin 768 → Bool => sortedFrom f k) (order_at X Y b i w k)
  unfold Host.sort2
  rw [dif_pos (by decide)]
  constructor
  · refine Eq.trans (congrArg X ?_) (congrArg X (along_ix4 b i w k _))
    exact congrArg (Shape.Idx.along (s := ⟨4, ![32, 32, 32, 768]⟩) (ix4 b i w k) 3) e
  · refine Eq.trans (congrArg Y ?_) (congrArg Y (along_ix4 b i w k _))
    exact congrArg (Shape.Idx.along (s := ⟨4, ![32, 32, 32, 768]⟩) (ix4 b i w k) 3) e

theorem head_at {α : Type} {K : ℕ} (hK : K ≤ 768) (Z : (⟨4, ![32, 32, 32, 768]⟩ : Shape).Idx → α)
    (h : (⟨4, ![32, 32, 32, 768]⟩ : Shape).Slices (fun _ => 0) ⟨4, ![32, 32, 32, K]⟩) (b i w : Fin 32) (k : Fin K) :
    extractStridedSlice ⟨4, ![32, 32, 32, K]⟩ (fun _ => 0) Z h (ix4 b i w k) = Z (ix4 b i w (k.castLE hK)) := by
  unfold extractStridedSlice
  refine congrArg Z ?_
  funext a
  match a with
  | ⟨0, _⟩ => exact Fin.ext (Nat.zero_add _)
  | ⟨1, _⟩ => exact Fin.ext (Nat.zero_add _)
  | ⟨2, _⟩ => exact Fin.ext (Nat.zero_add _)
  | ⟨3, _⟩ => exact Fin.ext (Nat.zero_add _)

/-- The places along the rows, as the words that travel with the entries. -/
def marks : (⟨4, ![32, 32, 32, 768]⟩ : Shape).Idx → BitVec 32 :=
  fun i => if hd : 3 < (⟨4, ![32, 32, 32, 768]⟩ : Shape).rank then iotaInDim ⟨4, ![32, 32, 32, 768]⟩ 32 ⟨3, hd⟩ i else 0#32

theorem marks_at (b i w : Fin 32) (c : Fin 768) : marks (ix4 b i w c) = BitVec.ofNat 32 c.val := by
  unfold marks
  rw [dif_pos (by decide)]
  rfl

/-- The first entries of every row in descending order. -/
theorem top_value {K : ℕ} (hK : K ≤ 768) (h : (⟨4, ![32, 32, 32, 768]⟩ : Shape).Slices (fun _ => 0) ⟨4, ![32, 32, 32, K]⟩)
    (b i w : Fin 32) (k : Fin K) :
    (Host.topK ⟨4, ![32, 32, 32, K]⟩ 3 (FloatOps.cmpfTotal (F := Ideal) (φ := .f32) .gt) X h).1 (ix4 b i w k)
      = X (ix4 b i w (places (row X b i w) (k.castLE hK))) := by
  unfold Host.topK
  exact (head_at hK _ h b i w k).trans (sort_at X marks b i w (k.castLE hK)).1

/-- The places of the first entries of every row in descending order. -/
theorem top_place {K : ℕ} (hK : K ≤ 768) (h : (⟨4, ![32, 32, 32, 768]⟩ : Shape).Slices (fun _ => 0) ⟨4, ![32, 32, 32, K]⟩)
    (b i w : Fin 32) (k : Fin K) :
    (Host.topK ⟨4, ![32, 32, 32, K]⟩ 3 (FloatOps.cmpfTotal (F := Ideal) (φ := .f32) .gt) X h).2 (ix4 b i w k)
      = BitVec.ofNat 32 (places (row X b i w) (k.castLE hK)).val := by
  unfold Host.topK
  exact ((head_at hK _ h b i w k).trans (sort_at X marks b i w (k.castLE hK)).2).trans (marks_at _ _ _ _)

end Cert.Proof.Places

end
-- ==== Proof.ReferenceValue.lean ====
/-
  What the reference returns over the extended reals: at every position, of its 768 channels those at the first eight places of
  the descending sort, and zero elsewhere.
-/
module

public import proofs.«01_k».proof.Proof.Words
public import proofs.«01_k».proof.Proof.Places
public import proofs.«01_k».proof.Proof.Gen.ReferenceIdeal.Run

@[expose] public section

noncomputable section

namespace Cert.Proof.ReferenceValue

open Cert.ReferenceIdeal Cert.ReferenceIdeal.Gen
open Idealize.ShloMosaic
open Cert.Proof.Lands Cert.Proof.Words
open Cert.Proof.Places (row places top_place)

/-- The argument with its channels last. -/
def rows (A : S32x768x32x32.Idx → Ideal .f32) : S32x32x32x768.Idx → Ideal .f32 :=
  transpose S32x32x32x768 [0, 2, 3, 1] A transposes_S32x768x32x32_S32x32x32x768_0_2_3_1

theorem rows_at (A : S32x768x32x32.Idx → Ideal .f32) (b h w : Fin 32) (c : Fin 768) : rows A (ix4 b h w c) = A (ix4 b c h w) := by
  refine congrArg A ?_
  funext a
  match a with
  | ⟨0, _⟩ => rfl
  | ⟨1, _⟩ => rfl
  | ⟨2, _⟩ => rfl
  | ⟨3, _⟩ => rfl

/-- The places of the eight greatest channels of every position. -/
def chosen (A : S32x768x32x32.Idx → Ideal .f32) : IVec S32x32x32x8 32 :=
  (Host.topK S32x32x32x8 3 (FloatOps.cmpfTotal (F := Ideal) (φ := .f32) .gt) (rows A) sliceFits_S32x32x32x768_S32x32x32x8).2

/-- The same as a number below 768. -/
def slot (A : S32x768x32x32.Idx → Ideal .f32) (j : S32x32x32x8.Idx) : Fin 768 :=
  places (row (rows A) (j 0) (j 1) (j 2)) (Fin.castLE (by decide : 8 ≤ 768) (j 3))

theorem chosen_eq (A : S32x768x32x32.Idx → Ideal .f32) (j : S32x32x32x8.Idx) : chosen A j = BitVec.ofNat 32 (slot A j).val := by
  obtain ⟨b, h, w, k, rfl⟩ : ∃ b h w k, j = ix4 (n0 := 32) (n1 := 32) (n2 := 32) (n3 := 8) b h w k := ⟨_, _, _, _, (ix4_eta j).symm⟩
  exact top_place (rows A) (by decide : 8 ≤ 768) sliceFits_S32x32x32x768_S32x32x32x8 b h w k

/-- The entries at the chosen places. -/
def picked (X : S32x32x32x768.Idx → Ideal .f32) (T : IVec S32x32x32x8 32) : S32x32x32x8.Idx → Ideal .f32 :=
  select (ranged T) (Host.gather pick X (column T)) (broadcastInDim S32x32x32x8 ![] bcast_S_S32x32x32x8 (constant S_ .f32 0x7FC00000#32))

/-- Zeros with the entries put back in their places. -/
def restored (X : S32x32x32x768.Idx → Ideal .f32) (T : IVec S32x32x32x8 32) : S32x32x32x768.Idx → Ideal .f32 :=
  Host.scatter put (fun _ b => b) (broadcastInDim S32x32x32x768 ![] bcast_S_S32x32x32x768 (constant S_ .f32 0x00000000#32)) (address T) (picked X T)

theorem res_eq (m : (ℓ : Loc nD τ sig) → Buf (Elt Ideal) ℓ) (c : Dev nD) :
    Value.res_main_v38 m c = transpose S32x768x32x32 [0, 3, 1, 2]
      (restored (rows (m ((c.tc : Thread nD τ).loc main_arg0))) (wrapped (chosen (m ((c.tc : Thread nD τ).loc main_arg0)))))
      transposes_S32x32x32x768_S32x768x32x32_0_3_1_2 := by
  unfold Value.res_main_v38
  rfl

theorem picked_at (A : S32x768x32x32.Idx → Ideal .f32) (b h w : Fin 32) (k : Fin 8) :
    picked (rows A) (chosen A) (ix4 b h w k) = rows A (ix4 b h w (slot A (ix4 b h w k))) := by
  have hg : Host.gather pick (rows A) (column (chosen A)) (ix4 b h w k) = rows A (ix4 b h w (slot A (ix4 b h w k))) :=
    congrArg (rows A) (pick_at b h w k _ (slot A (ix4 b h w k))
      (by rw [column_at, chosen_eq]; exact toInt_small (by have := (slot A (ix4 b h w k)).isLt; omega)))
  unfold picked
  rw [ValueIdx.select_apply, ranged_one _ (slot A) (chosen_eq A), ValueIdx.select_one]
  exact hg

theorem lands_iff (A : S32x768x32x32.Idx → Ideal .f32) (j : S32x32x32x8.Idx) (b h w : Fin 32) (c : Fin 768) :
    put.resultIdx? j (address (chosen A)) = some (ix4 b h w c) ↔ j 0 = b ∧ j 1 = h ∧ j 2 = w ∧ slot A j = c := by
  obtain ⟨b', h', w', k, rfl⟩ : ∃ b h w k, j = ix4 (n0 := 32) (n1 := 32) (n2 := 32) (n3 := 8) b h w k := ⟨_, _, _, _, (ix4_eta j).symm⟩
  have small : ∀ {n : ℕ} (x : Fin n), n ≤ 768 → (BitVec.ofNat 32 x.val).toInt = (x.val : Int) := fun x hn =>
    toInt_small (by have := x.isLt; omega)
  obtain ⟨e0, e1, e2, e3⟩ := address_at (chosen A) b' h' w' k
  rw [chosen_eq] at e3
  rw [put_lands]
  constructor
  · intro hl
    have l0 : (address (chosen A) (ix5 b' h' w' k 0)).toInt = (b.val : Int) := hl 0
    have l1 : (address (chosen A) (ix5 b' h' w' k 1)).toInt = (h.val : Int) := hl 1
    have l2 : (address (chosen A) (ix5 b' h' w' k 2)).toInt = (w.val : Int) := hl 2
    have l3 : (address (chosen A) (ix5 b' h' w' k 3)).toInt = (c.val : Int) := hl 3
    rw [e0, small b' (by decide)] at l0
    rw [e1, small h' (by decide)] at l1
    rw [e2, small w' (by decide)] at l2
    rw [e3, small _ (le_refl _)] at l3
    exact ⟨Fin.ext (Int.ofNat.inj l0), Fin.ext (Int.ofNat.inj l1), Fin.ext (Int.ofNat.inj l2), Fin.ext (Int.ofNat.inj l3)⟩
  · rintro ⟨h0, h1, h2, h3⟩ a
    change b' = b at h0
    change h' = h at h1
    change w' = w at h2
    subst h0 h1 h2 h3
    match a with
    | ⟨0, _⟩ => exact (congrArg BitVec.toInt e0).trans (small b' (by decide))
    | ⟨1, _⟩ => exact (congrArg BitVec.toInt e1).trans (small h' (by decide))
    | ⟨2, _⟩ => exact (congrArg BitVec.toInt e2).trans (small w' (by decide))
    | ⟨3, _⟩ => exact (congrArg BitVec.toInt e3).trans (small _ (le_refl _))

/-- The reference at a position and a channel. -/
theorem reference_at (m : (ℓ : Loc nD τ sig) → Buf (Elt Ideal) ℓ) (d : Dev nD) (b h w : Fin 32) (c : Fin 768)
    [Decidable (∃ k : Fin 768, k.val < 8 ∧ places (row (rows (m ((d.tc : Thread nD τ).loc main_arg0))) b h w) k = c)] :
    (Value.res_main_v38 m d (ix4 b c h w) : EReal)
      = if ∃ k : Fin 768, k.val < 8 ∧ places (row (rows (m ((d.tc : Thread nD τ).loc main_arg0))) b h w) k = c
        then row (rows (m ((d.tc : Thread nD τ).loc main_arg0))) b h w c else 0 := by
  classical
  generalize hA : (m ((d.tc : Thread nD τ).loc main_arg0) : S32x768x32x32.Idx → Ideal .f32) = A at *
  rw [res_eq, hA, wrapped_eq _ (slot A) (chosen_eq A)]
  have hsrc : transpose S32x768x32x32 [0, 3, 1, 2] (restored (rows A) (chosen A)) transposes_S32x32x32x768_S32x768x32x32_0_3_1_2 (ix4 b c h w)
      = restored (rows A) (chosen A) (ix4 b h w c) := by
    refine congrArg (restored (rows A) (chosen A)) ?_
    funext a
    match a with
    | ⟨0, _⟩ => rfl
    | ⟨1, _⟩ => rfl
    | ⟨2, _⟩ => rfl
    | ⟨3, _⟩ => rfl
  refine hsrc.trans ?_
  unfold restored
  rw [put_agreeing put _ _ _ (rows A (ix4 b h w c)) (ix4 b h w c) (fun j hj => by
    obtain ⟨b', h', w', k, rfl⟩ : ∃ b h w k, j = ix4 (n0 := 32) (n1 := 32) (n2 := 32) (n3 := 8) b h w k := ⟨_, _, _, _, (ix4_eta j).symm⟩
    obtain ⟨h0, h1, h2, h3⟩ := (lands_iff A _ b h w c).1 hj
    change b' = b at h0
    change h' = h at h1
    change w' = w at h2
    subst h0 h1 h2 h3
    exact picked_at A b' h' w' k)]
  have hz : (broadcastInDim S32x32x32x768 ![] bcast_S_S32x32x32x768 (constant (F := Ideal) S_ .f32 0x00000000#32) (ix4 b h w c) : EReal) = 0 := by
    show Ideal.ofBits .f32 0x00000000#32 = 0
    simp [Ideal.ofBits, Ideal.ieee]
  have hiff : (∃ j, put.resultIdx? j (address (chosen A)) = some (ix4 b h w c))
      ↔ ∃ k : Fin 768, k.val < 8 ∧ places (row (rows A) b h w) k = c := by
    constructor
    · rintro ⟨j, hj⟩
      obtain ⟨h0, h1, h2, h3⟩ := (lands_iff A j b h w c).1 hj
      refine ⟨Fin.castLE (by decide : 8 ≤ 768) (j 3), (j 3).isLt, ?_⟩
      rw [← h0, ← h1, ← h2]
      exact h3
    · rintro ⟨k, hk, hc⟩
      exact ⟨ix4 b h w ⟨k.val, hk⟩, (lands_iff A _ b h w c).2 ⟨rfl, rfl, rfl, hc⟩⟩
  by_cases hk : ∃ k : Fin 768, k.val < 8 ∧ places (row (rows A) b h w) k = c
  · rw [if_pos hk, if_pos (hiff.2 hk)]
    rfl
  · rw [if_neg hk, if_neg (fun hj => hk (hiff.1 hj))]
    exact hz

end Cert.Proof.ReferenceValue

end
-- ==== Proof.Cut.lean ====
/-
  What the precondition says: at every position the eighth greatest channel exceeds the ninth, or the ninth is zero.
-/
module

public import proofs.«01_k».proof.Proof.ReferenceValue
public import proofs.«01_k».proof.Pre_distinct_at_cut

@[expose] public section

noncomputable section

namespace Cert.Proof.Cut

open Cert.Pre_distinct_at_cut
open Cert.Pre_distinct_at_cut.Facts
open Idealize.ShloMosaic
open Cert.Proof.Places (row places top_value)
open Cert.Proof.ReferenceValue (rows)

/-- The side conditions the precondition's operations take. -/
instance facts : Cert.Pre_distinct_at_cut.Facts where
  transposes_S32x768x32x32_S32x32x32x768_0_2_3_1 := by decide
  sliceFits_S32x32x32x768_S32x32x32x9 := by decide
  slices_S32x32x32x9_S32x32x32x1_0_0_0_7 := by decide
  shapeCasts_S32x32x32x1_S32x32x32 := by decide
  slices_S32x32x32x9_S32x32x32x1_0_0_0_8 := by decide
  bcast_S_S32x32x32 := by decide
  reducesTo_S32x32x32_S_d0_1_2 := by decide
  h_S_ := by decide

/-- The nine greatest channels of every position, in descending order. -/
def nine (A : S32x768x32x32.Idx → Ideal .f32) : S32x32x32x9.Idx → Ideal .f32 :=
  (Host.topK S32x32x32x9 3 (FloatOps.cmpfTotal (F := Ideal) (φ := .f32) .gt) (rows A) sliceFits_S32x32x32x768_S32x32x32x9).1

theorem nine_at (A : S32x768x32x32.Idx → Ideal .f32) (b h w : Fin 32) (k : Fin 9) :
    nine A (ix4 b h w k) = row (rows A) b h w (places (row (rows A) b h w) (Fin.castLE (by decide : 9 ≤ 768) k)) :=
  top_value (rows A) (by decide : 9 ≤ 768) sliceFits_S32x32x32x768_S32x32x32x9 b h w k

/-- The eighth of the nine, and the ninth. -/
def eighth (A : S32x768x32x32.Idx → Ideal .f32) : S32x32x32.Idx → Ideal .f32 :=
  shapeCast S32x32x32 (extractStridedSlice S32x32x32x1 ![0, 0, 0, 7] (nine A) slices_S32x32x32x9_S32x32x32x1_0_0_0_7) shapeCasts_S32x32x32x1_S32x32x32
def ninth (A : S32x768x32x32.Idx → Ideal .f32) : S32x32x32.Idx → Ideal .f32 :=
  shapeCast S32x32x32 (extractStridedSlice S32x32x32x1 ![0, 0, 0, 8] (nine A) slices_S32x32x32x9_S32x32x32x1_0_0_0_8) shapeCasts_S32x32x32x1_S32x32x32

theorem flat (Z : S32x32x32x1.Idx → Ideal .f32) (b h w : Fin 32) : shapeCast S32x32x32 Z shapeCasts_S32x32x32x1_S32x32x32 (ix3 b h w) = Z (ix4 b h w 0) := by
  refine shapeCast_apply _ _ _ _ ?_
  rw [Shape.rowMajor_val_three, Shape.rowMajor_val_four]
  show ((b.val * 32 + h.val) * 32 + w.val) * 1 + 0 = (b.val * 32 + h.val) * 32 + w.val
  omega

theorem eighth_at (A : S32x768x32x32.Idx → Ideal .f32) (b h w : Fin 32) :
    eighth A (ix3 b h w) = row (rows A) b h w (places (row (rows A) b h w) ⟨7, by decide⟩) := by
  refine (flat _ b h w).trans ((congrArg (nine A) ?_).trans (nine_at A b h w 7))
  funext a
  match a with
  | ⟨0, _⟩ => exact Fin.ext (Nat.zero_add _)
  | ⟨1, _⟩ => exact Fin.ext (Nat.zero_add _)
  | ⟨2, _⟩ => exact Fin.ext (Nat.zero_add _)
  | ⟨3, _⟩ => rfl

theorem ninth_at (A : S32x768x32x32.Idx → Ideal .f32) (b h w : Fin 32) :
    ninth A (ix3 b h w) = row (rows A) b h w (places (row (rows A) b h w) ⟨8, by decide⟩) := by
  refine (flat _ b h w).trans ((congrArg (nine A) ?_).trans (nine_at A b h w 8))
  funext a
  match a with
  | ⟨0, _⟩ => exact Fin.ext (Nat.zero_add _)
  | ⟨1, _⟩ => exact Fin.ext (Nat.zero_add _)
  | ⟨2, _⟩ => exact Fin.ext (Nat.zero_add _)
  | ⟨3, _⟩ => rfl

/-- The precondition, over the eighth and the ninth. -/
theorem fn_eq (A : S32x768x32x32.Idx → Ideal .f32) :
    fn (F := Ideal) A = Host.reduce IntOp.andi
      (ori (cmpf .ogt (eighth A) (ninth A)) (cmpf .oeq (ninth A) (broadcastInDim S32x32x32 ![] bcast_S_S32x32x32 (constant S_ .f32 0x00000000#32))))
      (constantI S_ 1 1#1) reducesTo_S32x32x32_S_d0_1_2 h_S_ := by
  unfold fn
  rfl

theorem cut (A : S32x768x32x32.Idx → Ideal .f32) (hA : fn (F := Ideal) A = fun _ => 1#1) (b h w : Fin 32) :
    row (rows A) b h w (places (row (rows A) b h w) ⟨8, by decide⟩) < row (rows A) b h w (places (row (rows A) b h w) ⟨7, by decide⟩)
      ∨ row (rows A) b h w (places (row (rows A) b h w) ⟨8, by decide⟩) = 0 := by
  haveI : Subsingleton S_.Idx := ⟨fun i j => funext fun a => a.elim0⟩
  have e := Host.reduce_andi_all _ _ _ _ (fun a => a.elim0) (congrFun ((fn_eq A).symm.trans hA) _) (ix3 b h w)
  have hz : Ideal.ofBits .f32 0x00000000#32 = 0 := by simp [Ideal.ofBits, Ideal.ieee]
  change BitVec.ofBool (decide ((ninth A (ix3 b h w) : EReal) < eighth A (ix3 b h w)))
    ||| BitVec.ofBool (decide ((ninth A (ix3 b h w) : EReal) = Ideal.ofBits .f32 0x00000000#32)) = 1#1 at e
  rw [hz, eighth_at, ninth_at] at e
  by_contra hn
  rw [not_or] at hn
  rw [decide_eq_false hn.1, decide_eq_false hn.2] at e
  exact absurd e (by decide)

end Cert.Proof.Cut

end
-- ==== Proof.Equal.lean ====
/-
  The kernel and the reference return one array over the extended reals, wherever the eighth greatest channel of every position
  exceeds the ninth or the ninth is zero.
-/
module

public import proofs.«01_k».proof.Proof.KernelValue
public import proofs.«01_k».proof.Proof.Cut

@[expose] public section

noncomputable section

namespace Cert.Proof.Equal

open Idealize.ShloMosaic
open Cert.Proof.TileKernelIdeal (result)
open Cert.Proof.Places (row places descending)
open Cert.Proof.ReferenceValue (rows rows_at reference_at)

theorem equal (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (d : Dev Cert.KernelIdeal.nD)
    (hm : m' ((d.tc : Thread Cert.ReferenceIdeal.nD Cert.ReferenceIdeal.τ).loc Cert.ReferenceIdeal.main_arg0)
      = m ((d.tc : Thread Cert.KernelIdeal.nD Cert.KernelIdeal.τ).loc Cert.KernelIdeal.main_arg0))
    (hp : Cert.Pre_distinct_at_cut.fn (F := Ideal) (m ((d.tc : Thread Cert.KernelIdeal.nD Cert.KernelIdeal.τ).loc Cert.KernelIdeal.main_arg0))
      = fun _ => 1#1) :
    Cert.ReferenceIdeal.Value.res_main_v38 m' d = result m d := by
  classical
  funext i
  obtain ⟨b, c, h, w, rfl⟩ : ∃ b c h w, i = ix4 (n0 := 32) (n1 := 768) (n2 := 32) (n3 := 32) b c h w := ⟨_, _, _, _, (ix4_eta i).symm⟩
  refine (reference_at m' d b h w c).trans (Eq.trans ?_ (KernelValue.result_at m d b c h w).symm)
  have hr : row (rows (m' ((d.tc : Thread Cert.ReferenceIdeal.nD Cert.ReferenceIdeal.τ).loc Cert.ReferenceIdeal.main_arg0))) b h w
      = KernelValue.column (m ((d.tc : Thread Cert.KernelIdeal.nD Cert.KernelIdeal.τ).loc Cert.KernelIdeal.main_arg0)) b h w := by
    funext c
    rw [hm]
    exact rows_at _ b h w c
  have hr' : row (rows (m ((d.tc : Thread Cert.KernelIdeal.nD Cert.KernelIdeal.τ).loc Cert.KernelIdeal.main_arg0))) b h w
      = KernelValue.column (m ((d.tc : Thread Cert.KernelIdeal.nD Cert.KernelIdeal.τ).loc Cert.KernelIdeal.main_arg0)) b h w := by
    funext c
    exact rows_at _ b h w c
  have hc := Cut.cut _ hp b h w
  rw [hr'] at hc
  simp only [hr]
  exact (Rank.keep_eq (descending _) (0 : EReal) (by decide) (by decide) hc c).symm

end Cert.Proof.Equal

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.LaunchKernel
public import proofs.«01_k».proof.Proof.LaunchKernelIdeal
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem

/-- The kernel at the words of the format: it ends, its argument unchanged, every counter at zero. -/
theorem frame_kernel : Cert.quiescent_Kernel := fun m g _ =>
  (θ_run Cert.Kernel.defs _ _).mono (fun _ h => ⟨fun c => (h.1 c).1, h.2⟩) (TileKernel.ends (F := Bits) m g)

/-- The kernel over the extended reals: the same. -/
theorem frame_kernelIdeal : Cert.quiescent_KernelIdeal := fun m g _ =>
  (θ_run Cert.KernelIdeal.defs _ _).mono (fun _ h => ⟨fun c => (h.1 c).1, h.2⟩) (TileKernelIdeal.ends (F := Ideal) m g)

/-- The reference over the extended reals: the same; it declares no counter. -/
theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The two return one array over the extended reals, under the precondition. -/
theorem algebraic : Cert.algebraic_KernelIdeal_ReferenceIdeal_pre_distinct_at_cut := fun m g m' g' hp hm =>
  ⟨fun c => TileKernelIdeal.result m c,
    (θ_run Cert.KernelIdeal.defs _ _).mono (fun _ h c => ⟨(h.1 c).2, (h.1 c).1⟩) (TileKernelIdeal.ends (F := Ideal) m g),
    (θ_run Cert.ReferenceIdeal.defs _ _).mono (fun _ h c => ⟨(h c).1.trans (Equal.equal m m' c (hm c) (hp c)), (h c).2⟩)
      (Cert.ReferenceIdeal.Value.run (F := Ideal) m' g')⟩

theorem claim : Cert.Claim :=
  ⟨Cert.Kernel.Gen.facts, Cert.KernelIdeal.Gen.facts, Cert.ReferenceIdeal.Gen.facts, Cut.facts,
    frame_kernel, frame_kernelIdeal, fun m g _ => frame_kernelIdeal m g trivial,
    frame_referenceIdeal, fun m g _ => frame_referenceIdeal m g trivial, trivial, algebraic⟩

end Cert.Proof

end
